-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_v7) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v47) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel4 : Cert.Kernel4.Facts) (hKernel4Ideal : Cert.Kernel4Ideal.Facts) (hReference4Ideal : Cert.Reference4Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel5 : Cert.Kernel5.Facts) (hKernel5Ideal : Cert.Kernel5Ideal.Facts) (hReference5Ideal : Cert.Reference5Ideal.Facts) (hPre_experts_in_range : Cert.Pre_experts_in_range.Facts),
    quiescent_Kernel (hKernel := hKernel)
    ∧ quiescent_KernelIdeal (hKernelIdeal := hKernelIdeal)
    ∧ quiescent_ReferenceIdeal (hReferenceIdeal := hReferenceIdeal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel4_Kernel4Ideal
    ∧ algebraic_Kernel4Ideal_Reference4Ideal (hKernel4Ideal := hKernel4Ideal) (hReference4Ideal := hReference4Ideal)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel5_Kernel5Ideal
    ∧ algebraic_Kernel5Ideal_Reference5Ideal (hKernel5Ideal := hKernel5Ideal) (hReference5Ideal := hReference5Ideal)
-- ==== Pre_experts_in_range.lean ====
abbrev S136 : Shape := ⟨1, ![136]⟩
abbrev S69632x1024 : Shape := ⟨2, ![69632, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : IVec S136 32) (main_arg1 : FVec F S69632x1024 .bf16) (main_arg2 : FVec F S8x1024x3584 .bf16) (main_arg3 : FVec F S8x1024x3584 .bf16) (main_arg4 : FVec F S8x3584x1024 .bf16) : IVec S136 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  main_v4
-- ==== Kernel.lean ====
abbrev S32768x3072 : Shape := ⟨2, ![32768, 3072]⟩
abbrev S512 : Shape := ⟨1, ![512]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S16384x128 : Shape := ⟨2, ![16384, 128]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S4 : Shape := ⟨1, ![4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S4x1 : Shape := ⟨2, ![4, 1]⟩
abbrev S4x64 : Shape := ⟨2, ![4, 64]⟩
abbrev S2x2x64x64 : Shape := ⟨4, ![2, 2, 64, 64]⟩
abbrev S2x1x64x64 : Shape := ⟨4, ![2, 1, 64, 64]⟩
abbrev S2x64x64 : Shape := ⟨3, ![2, 64, 64]⟩
abbrev S2x64x128 : Shape := ⟨3, ![2, 64, 128]⟩
abbrev S2x2x64 : Shape := ⟨3, ![2, 2, 64]⟩
abbrev S2x128x64 : Shape := ⟨3, ![2, 128, 64]⟩
abbrev S2x2 : Shape := ⟨2, ![2, 2]⟩
abbrev S2x128 : Shape := ⟨2, ![2, 128]⟩
abbrev S2x1x128 : Shape := ⟨3, ![2, 1, 128]⟩
abbrev S1x512 : Shape := ⟨2, ![1, 512]⟩
abbrev S32768x512 : Shape := ⟨2, ![32768, 512]⟩
abbrev S512x128 : Shape := ⟨2, ![512, 128]⟩
abbrev S512x256 : Shape := ⟨2, ![512, 256]⟩
abbrev S1x64x128 : Shape := ⟨3, ![1, 64, 128]⟩
abbrev S1x1x128 : Shape := ⟨3, ![1, 1, 128]⟩
abbrev S1x256 : Shape := ⟨2, ![1, 256]⟩
abbrev S256x128 : Shape := ⟨2, ![256, 128]⟩
abbrev S64x128 : Shape := ⟨2, ![64, 128]⟩
abbrev S8x64x128 : Shape := ⟨3, ![8, 64, 128]⟩
abbrev S1x128 : Shape := ⟨2, ![1, 128]⟩
abbrev S128x128 : Shape := ⟨2, ![128, 128]⟩
abbrev S64x256 : Shape := ⟨2, ![64, 256]⟩
abbrev S128x256 : Shape := ⟨2, ![128, 256]⟩
abbrev S512x1 : Shape := ⟨2, ![512, 1]⟩

abbrev nBuf : Space → Nat
  | .hbm => 102
  | .vmem => 25
  | .smem => 0
  | _ => 0

abbrev bufTy : (tb : Table) → Fin (tcTables nBuf tb) → BufTy
  | .hbm, ⟨0, _⟩ => ⟨S32768x3072, .f32⟩
  | .hbm, ⟨1, _⟩ => ⟨S512, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S16384, .f32⟩
  | .hbm, ⟨11, _⟩ => ⟨S16384x1, .f32⟩
  | .hbm, ⟨12, _⟩ => ⟨S1x32, .f32⟩
  | .hbm, ⟨13, _⟩ => ⟨S16384x32, .f32⟩
  | .hbm, ⟨14, _⟩ => ⟨S16384x32, .f32⟩
  | .hbm, ⟨15, _⟩ => ⟨S16384x32, .f32⟩
  | .hbm, ⟨16, _⟩ => ⟨S16384x32, .f32⟩
  | .hbm, ⟨17, _⟩ => ⟨S16384x32, .f32⟩
  | .hbm, ⟨18, _⟩ => ⟨S1x16384x1x32, .f32⟩
  | .hbm, ⟨19, _⟩ => ⟨S1x16384x4x32, .f32⟩
  | .hbm, ⟨20, _⟩ => ⟨S16384x128, .f32⟩
  | .hbm, ⟨21, _⟩ => ⟨S16384x32, .f32⟩
  | .hbm, ⟨22, _⟩ => ⟨S16384x64, .f32⟩
  | .hbm, ⟨23, _⟩ => ⟨S1x16384x1x64, .f32⟩
  | .hbm, ⟨24, _⟩ => ⟨S1x16384x2x64, .f32⟩
  | .hbm, ⟨25, _⟩ => ⟨S16384x128, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S64, .f32⟩
  | .hbm, ⟨37, _⟩ => ⟨S64x1, .f32⟩
  | .hbm, ⟨38, _⟩ => ⟨S1x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S_, .f32⟩
  | .hbm, ⟨43, _⟩ => ⟨S64x64, .f32⟩
  | .hbm, ⟨44, _⟩ => ⟨S64x64, .i1⟩
  | .hbm, ⟨45, _⟩ => ⟨S_, .f32⟩
  | .hbm, ⟨46, _⟩ => ⟨S64x64, .f32⟩
  | .hbm, ⟨47, _⟩ => ⟨S64x64, .f32⟩
  | .hbm, ⟨48, _⟩ => ⟨S1x64x64, .f32⟩
  | .hbm, ⟨49, _⟩ => ⟨S4x1x1, .f32⟩
  | .hbm, ⟨50, _⟩ => ⟨S4x64x64, .f32⟩
  | .hbm, ⟨51, _⟩ => ⟨S4x64x64, .f32⟩
  | .hbm, ⟨52, _⟩ => ⟨S4x64x64, .f32⟩
  | .hbm, ⟨53, _⟩ => ⟨S4x64x64, .f32⟩
  | .hbm, ⟨54, _⟩ => ⟨S_, .f32⟩
  | .hbm, ⟨55, _⟩ => ⟨S_, .f32⟩
  | .hbm, ⟨56, _⟩ => ⟨S4x64x64, .i1⟩
  | .hbm, ⟨57, _⟩ => ⟨S4x64x64, .f32⟩
  | .hbm, ⟨58, _⟩ => ⟨S4x64x64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S1x64, .f32⟩
  | .hbm, ⟨63, _⟩ => ⟨S4x1, .f32⟩
  | .hbm, ⟨64, _⟩ => ⟨S4x64, .f32⟩
  | .hbm, ⟨65, _⟩ => ⟨S4x64, .f32⟩
  | .hbm, ⟨66, _⟩ => ⟨S4x64, .f32⟩
  | .hbm, ⟨67, _⟩ => ⟨S4x64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S1x64, .f32⟩
  | .hbm, ⟨72, _⟩ => ⟨S4x1, .f32⟩
  | .hbm, ⟨73, _⟩ => ⟨S4x64, .f32⟩
  | .hbm, ⟨74, _⟩ => ⟨S4x64, .f32⟩
  | .hbm, ⟨75, _⟩ => ⟨S4x64, .f32⟩
  | .hbm, ⟨76, _⟩ => ⟨S4x64, .f32⟩
  | .hbm, ⟨77, _⟩ => ⟨S_, .f32⟩
  | .hbm, ⟨78, _⟩ => ⟨S4, .f32⟩
  | .hbm, ⟨79, _⟩ => ⟨S4, .f32⟩
  | .hbm, ⟨80, _⟩ => ⟨S4, .f32⟩
  | .hbm, ⟨81, _⟩ => ⟨S2x2x64x64, .f32⟩
  | .hbm, ⟨82, _⟩ => ⟨S2x1x64x64, .f32⟩
  | .hbm, ⟨83, _⟩ => ⟨S2x64x64, .f32⟩
  | .hbm, ⟨84, _⟩ => ⟨S2x2x64x64, .f32⟩
  | .hbm, ⟨85, _⟩ => ⟨S2x1x64x64, .f32⟩
  | .hbm, ⟨86, _⟩ => ⟨S2x64x64, .f32⟩
  | .hbm, ⟨87, _⟩ => ⟨S2x64x128, .f32⟩
  | .hbm, ⟨88, _⟩ => ⟨S2x2x64, .f32⟩
  | .hbm, ⟨89, _⟩ => ⟨S2x2x64x64, .f32⟩
  | .hbm, ⟨90, _⟩ => ⟨S2x128x64, .f32⟩
  | .hbm, ⟨91, _⟩ => ⟨S2x64x128, .f32⟩
  | .hbm, ⟨92, _⟩ => ⟨S2x2x64, .f32⟩
  | .hbm, ⟨93, _⟩ => ⟨S2x2x64x64, .f32⟩
  | .hbm, ⟨94, _⟩ => ⟨S2x128x64, .f32⟩
  | .hbm, ⟨95, _⟩ => ⟨S2x64x128, .f32⟩
  | .hbm, ⟨96, _⟩ => ⟨S2x2, .f32⟩
  | .hbm, ⟨97, _⟩ => ⟨S2x2x64, .f32⟩
  | .hbm, ⟨98, _⟩ => ⟨S2x128, .f32⟩
  | .hbm, ⟨99, _⟩ => ⟨S2x1x128, .f32⟩
  | .hbm, ⟨100, _⟩ => ⟨S1x512, .f32⟩
  | .hbm, ⟨101, _⟩ => ⟨S32768x512, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x64x128, .f32⟩
  | .local _ .vmem, ⟨13, _⟩ => ⟨S1x64x128, .f32⟩
  | .local _ .vmem, ⟨14, _⟩ => ⟨S1x64x128, .f32⟩
  | .local _ .vmem, ⟨15, _⟩ => ⟨S1x64x128, .f32⟩
  | .local _ .vmem, ⟨16, _⟩ => ⟨S1x64x128, .f32⟩
  | .local _ .vmem, ⟨17, _⟩ => ⟨S1x64x128, .f32⟩
  | .local _ .vmem, ⟨18, _⟩ => ⟨S1x1x128, .f32⟩
  | .local _ .vmem, ⟨19, _⟩ => ⟨S1x1x128, .f32⟩
  | .local _ .vmem, ⟨20, _⟩ => ⟨S1x256, .f32⟩
  | .local _ .vmem, ⟨21, _⟩ => ⟨S1x256, .f32⟩
  | .local _ .vmem, ⟨22, _⟩ => ⟨S512x256, .bf16⟩
  | .local _ .vmem, ⟨23, _⟩ => ⟨S512x256, .bf16⟩
  | .local _ .vmem, ⟨24, _⟩ => ⟨S256x128, .f32⟩
  | _, _ => ⟨S32768x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_3 : Ref sig .tc := ⟨.hbm, 42, rfl⟩
abbrev main_v36 : Ref sig .tc := ⟨.hbm, 43, rfl⟩
abbrev main_v37 : Ref sig .tc := ⟨.hbm, 44, rfl⟩
abbrev main_cst_4 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_5 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_8 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 2, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c14_i32 : BitVec 32 := 14#32
  let v2 : BitVec 32 := Scalar.addi c14_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c10_i32 : BitVec 32 := 10#32
  let v2 : BitVec 32 := Scalar.addi c10_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== ReferenceIdeal.lean ====
abbrev S32768x3072 : Shape := ⟨2, ![32768, 3072]⟩
abbrev S512 : Shape := ⟨1, ![512]⟩
abbrev S2x16384x3072 : Shape := ⟨3, ![2, 16384, 3072]⟩
abbrev S2x16384x256 : Shape := ⟨3, ![2, 16384, 256]⟩
abbrev S2x16384x512 : Shape := ⟨3, ![2, 16384, 512]⟩
abbrev S2x16384x4x64 : Shape := ⟨4, ![2, 16384, 4, 64]⟩
abbrev S2x4x16384x64 : Shape := ⟨4, ![2, 4, 16384, 64]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S2x4x16384x32 : Shape := ⟨4, ![2, 4, 16384, 32]⟩
abbrev S1x1x16384x32 : Shape := ⟨4, ![1, 1, 16384, 32]⟩
abbrev S2x16384x4x128 : Shape := ⟨4, ![2, 16384, 4, 128]⟩
abbrev S2x4x16384x128 : Shape := ⟨4, ![2, 4, 16384, 128]⟩
abbrev S4 : Shape := ⟨1, ![4]⟩
abbrev S2x4x256x64x64 : Shape := ⟨5, ![2, 4, 256, 64, 64]⟩
abbrev S2x4x256x64x128 : Shape := ⟨5, ![2, 4, 256, 64, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S4x1x64x64 : Shape := ⟨4, ![4, 1, 64, 64]⟩
abbrev S1x4x1x64x64 : Shape := ⟨5, ![1, 4, 1, 64, 64]⟩
abbrev S4x1 : Shape := ⟨2, ![4, 1]⟩
abbrev S4x64 : Shape := ⟨2, ![4, 64]⟩
abbrev S4x1x64x1 : Shape := ⟨4, ![4, 1, 64, 1]⟩
abbrev S1x4x1x64x1 : Shape := ⟨5, ![1, 4, 1, 64, 1]⟩
abbrev S256x2x4x64x128 : Shape := ⟨5, ![256, 2, 4, 64, 128]⟩
abbrev S2x4x64x128 : Shape := ⟨4, ![2, 4, 64, 128]⟩
abbrev S1x2x4x64x128 : Shape := ⟨5, ![1, 2, 4, 64, 128]⟩
abbrev S1x4x1x1 : Shape := ⟨4, ![1, 4, 1, 1]⟩
abbrev S2x4x16384 : Shape := ⟨3, ![2, 4, 16384]⟩
abbrev S2x4x16384x1 : Shape := ⟨4, ![2, 4, 16384, 1]⟩
abbrev S1x1x512 : Shape := ⟨3, ![1, 1, 512]⟩
abbrev S32768x512 : Shape := ⟨2, ![32768, 512]⟩

abbrev nBuf : Space → Nat
  | .hbm => 227
  | .vmem => 0
  | .smem => 0
  | _ => 0

abbrev hbmTy0_0 (i : Nat) : BufTy := match i % 128 with
  | 0 => ⟨S32768x3072, .f32⟩
  | 1 => ⟨S512, .f32⟩
  | 2 => ⟨S2x16384x3072, .f32⟩
  | 3 => ⟨S2x16384x256, .f32⟩
  | 4 => ⟨S2x16384x256, .f32⟩
  | 5 => ⟨S2x16384x512, .f32⟩
  | 6 => ⟨S2x16384x512, .f32⟩
  | 7 => ⟨S2x16384x4x64, .f32⟩
  | 8 => ⟨S2x4x16384x64, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S16384, .f32⟩
  | 18 => ⟨S16384x1, .f32⟩
  | 19 => ⟨S1x32, .f32⟩
  | 20 => ⟨S16384x32, .f32⟩
  | 21 => ⟨S16384x32, .f32⟩
  | 22 => ⟨S16384x32, .f32⟩
  | 23 => ⟨S16384x32, .f32⟩
  | 24 => ⟨S16384x32, .f32⟩
  | 25 => ⟨S2x4x16384x32, .f32⟩
  | 26 => ⟨S2x4x16384x32, .f32⟩
  | 27 => ⟨S1x1x16384x32, .f32⟩
  | 28 => ⟨S2x4x16384x32, .f32⟩
  | 29 => ⟨S2x4x16384x32, .f32⟩
  | 30 => ⟨S1x1x16384x32, .f32⟩
  | 31 => ⟨S2x4x16384x32, .f32⟩
  | 32 => ⟨S2x4x16384x32, .f32⟩
  | 33 => ⟨S2x4x16384x32, .f32⟩
  | 34 => ⟨S1x1x16384x32, .f32⟩
  | 35 => ⟨S2x4x16384x32, .f32⟩
  | 36 => ⟨S2x4x16384x32, .f32⟩
  | 37 => ⟨S1x1x16384x32, .f32⟩
  | 38 => ⟨S2x4x16384x32, .f32⟩
  | 39 => ⟨S2x4x16384x32, .f32⟩
  | 40 => ⟨S2x4x16384x32, .f32⟩
  | 41 => ⟨S2x4x16384x64, .f32⟩
  | 42 => ⟨S2x16384x4x64, .f32⟩
  | 43 => ⟨S2x4x16384x64, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S16384, .f32⟩
  | 53 => ⟨S16384x1, .f32⟩
  | 54 => ⟨S1x32, .f32⟩
  | 55 => ⟨S16384x32, .f32⟩
  | 56 => ⟨S16384x32, .f32⟩
  | 57 => ⟨S16384x32, .f32⟩
  | 58 => ⟨S16384x32, .f32⟩
  | 59 => ⟨S16384x32, .f32⟩
  | 60 => ⟨S2x4x16384x32, .f32⟩
  | 61 => ⟨S2x4x16384x32, .f32⟩
  | 62 => ⟨S1x1x16384x32, .f32⟩
  | 63 => ⟨S2x4x16384x32, .f32⟩
  | 64 => ⟨S2x4x16384x32, .f32⟩
  | 65 => ⟨S1x1x16384x32, .f32⟩
  | 66 => ⟨S2x4x16384x32, .f32⟩
  | 67 => ⟨S2x4x16384x32, .f32⟩
  | 68 => ⟨S2x4x16384x32, .f32⟩
  | 69 => ⟨S1x1x16384x32, .f32⟩
  | 70 => ⟨S2x4x16384x32, .f32⟩
  | 71 => ⟨S2x4x16384x32, .f32⟩
  | 72 => ⟨S1x1x16384x32, .f32⟩
  | 73 => ⟨S2x4x16384x32, .f32⟩
  | 74 => ⟨S2x4x16384x32, .f32⟩
  | 75 => ⟨S2x4x16384x32, .f32⟩
  | 76 => ⟨S2x4x16384x64, .f32⟩
  | 77 => ⟨S_, .f32⟩
  | 78 => ⟨S2x4x16384x64, .f32⟩
  | 79 => ⟨S2x4x16384x64, .f32⟩
  | 80 => ⟨S2x16384x4x128, .f32⟩
  | 81 => ⟨S2x4x16384x128, .f32⟩
  | 82 => ⟨S4, .f32⟩
  | 83 => ⟨S_, .f32⟩
  | 84 => ⟨S4, .f32⟩
  | 85 => ⟨S4, .f32⟩
  | 86 => ⟨S_, .f32⟩
  | 87 => ⟨S4, .f32⟩
  | 88 => ⟨S4, .f32⟩
  | 89 => ⟨S4, .f32⟩
  | 90 => ⟨S4, .f32⟩
  | 91 => ⟨S4, .f32⟩
  | 92 => ⟨S2x4x256x64x64, .f32⟩
  | 93 => ⟨S2x4x256x64x64, .f32⟩
  | 94 => ⟨S2x4x256x64x128, .f32⟩
  | 95 => ⟨S64, .f32⟩
  | 96 => ⟨S64x1, .f32⟩
  | 97 => ⟨S1x64, .f32⟩
  | 98 => ⟨S64x64, .f32⟩
  | 99 => ⟨S64x64, .f32⟩
  | 100 => ⟨S64x64, .f32⟩
  | 101 => ⟨S_, .f32⟩
  | 102 => ⟨S64x64, .f32⟩
  | 103 => ⟨S64x64, .i1⟩
  | 104 => ⟨S_, .f32⟩
  | 105 => ⟨S64x64, .f32⟩
  | 106 => ⟨S64x64, .f32⟩
  | 107 => ⟨S1x64x64, .f32⟩
  | 108 => ⟨S4x1x1, .f32⟩
  | 109 => ⟨S4x64x64, .f32⟩
  | 110 => ⟨S4x64x64, .f32⟩
  | 111 => ⟨S4x64x64, .f32⟩
  | 112 => ⟨S4x64x64, .f32⟩
  | 113 => ⟨S_, .f32⟩
  | 114 => ⟨S_, .f32⟩
  | 115 => ⟨S4x64x64, .i1⟩
  | 116 => ⟨S4x64x64, .f32⟩
  | 117 => ⟨S4x64x64, .f32⟩
  | 118 => ⟨S2x4x256x64x64, .f32⟩
  | 119 => ⟨S4x1x64x64, .f32⟩
  | 120 => ⟨S1x4x1x64x64, .f32⟩
  | 121 => ⟨S2x4x256x64x64, .f32⟩
  | 122 => ⟨S2x4x256x64x64, .f32⟩
  | 123 => ⟨S2x4x256x64x128, .f32⟩
  | 124 => ⟨S_, .f32⟩
  | 125 => ⟨S64, .f32⟩
  | 126 => ⟨S64, .f32⟩
  | 127 => ⟨S1x64, .f32⟩
  | _ => ⟨S32768x3072, .f32⟩

abbrev hbmTy0_1 (i : Nat) : BufTy := match i % 128 with
  | 0 => ⟨S4x1, .f32⟩
  | 1 => ⟨S4x64, .f32⟩
  | 2 => ⟨S4x64, .f32⟩
  | 3 => ⟨S4x64, .f32⟩
  | 4 => ⟨S4x64, .f32⟩
  | 5 => ⟨S4x1x64x1, .f32⟩
  | 6 => ⟨S1x4x1x64x1, .f32⟩
  | 7 => ⟨S2x4x256x64x64, .f32⟩
  | 8 => ⟨S2x4x256x64x64, .f32⟩
  | 9 => ⟨S256x2x4x64x128, .f32⟩
  | 10 => ⟨S_, .f32⟩
  | 11 => ⟨S4, .f32⟩
  | 12 => ⟨S4, .f32⟩
  | 13 => ⟨S4, .f32⟩
  | 14 => ⟨S4x1x1, .f32⟩
  | 15 => ⟨S_, .f32⟩
  | 16 => ⟨S2x4x64x128, .f32⟩
  | 17 => ⟨S_, .f32⟩
  | 18 => ⟨S256x2x4x64x128, .f32⟩
  | 19 => ⟨S_, .i32⟩
  | 20 => ⟨S256x2x4x64x128, .f32⟩
  | 21 => ⟨S4x1x1, .f32⟩
  | 22 => ⟨S_, .i32⟩
  | 23 => ⟨S2x4x64x128, .f32⟩
  | 24 => ⟨S256x2x4x64x128, .f32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S1x2x4x64x128, .f32⟩
  | 32 => ⟨S2x4x64x128, .f32⟩
  | 33 => ⟨S1x4x1x1, .f32⟩
  | 34 => ⟨S2x4x64x128, .f32⟩
  | 35 => ⟨S2x4x64x128, .f32⟩
  | 36 => ⟨S2x4x64x128, .f32⟩
  | 37 => ⟨S1x2x4x64x128, .f32⟩
  | 38 => ⟨S_, .i32⟩
  | 39 => ⟨S_, .i32⟩
  | 40 => ⟨S_, .i32⟩
  | 41 => ⟨S_, .i32⟩
  | 42 => ⟨S256x2x4x64x128, .f32⟩
  | 43 => ⟨S_, .i32⟩
  | 44 => ⟨S_, .i32⟩
  | 45 => ⟨S_, .f32⟩
  | 46 => ⟨S64, .f32⟩
  | 47 => ⟨S64, .f32⟩
  | 48 => ⟨S1x64, .f32⟩
  | 49 => ⟨S4x1, .f32⟩
  | 50 => ⟨S4x64, .f32⟩
  | 51 => ⟨S4x64, .f32⟩
  | 52 => ⟨S4x64, .f32⟩
  | 53 => ⟨S4x64, .f32⟩
  | 54 => ⟨S4x1x64x1, .f32⟩
  | 55 => ⟨S1x4x1x64x1, .f32⟩
  | 56 => ⟨S2x4x256x64x64, .f32⟩
  | 57 => ⟨S2x4x256x64x64, .f32⟩
  | 58 => ⟨S2x4x256x64x128, .f32⟩
  | 59 => ⟨S2x4x256x64x128, .f32⟩
  | 60 => ⟨S2x4x16384x128, .f32⟩
  | 61 => ⟨S_, .f32⟩
  | 62 => ⟨S2x4x16384, .f32⟩
  | 63 => ⟨S2x4x16384x1, .f32⟩
  | 64 => ⟨S_, .f32⟩
  | 65 => ⟨S2x4x16384x1, .f32⟩
  | 66 => ⟨S2x4x16384x1, .f32⟩
  | 67 => ⟨S2x4x16384x128, .f32⟩
  | 68 => ⟨S2x4x16384x128, .f32⟩
  | 69 => ⟨S2x4x16384x128, .f32⟩
  | 70 => ⟨S_, .f32⟩
  | 71 => ⟨S2x4x16384, .f32⟩
  | 72 => ⟨S2x4x16384x1, .f32⟩
  | 73 => ⟨S_, .f32⟩
  | 74 => ⟨S2x4x16384x1, .f32⟩
  | 75 => ⟨S2x4x16384x1, .f32⟩
  | 76 => ⟨S_, .f32⟩
  | 77 => ⟨S2x4x16384x1, .f32⟩
  | 78 => ⟨S2x4x16384x1, .f32⟩
  | 79 => ⟨S2x4x16384x1, .f32⟩
  | 80 => ⟨S2x4x16384x128, .f32⟩
  | 81 => ⟨S2x4x16384x128, .f32⟩
  | 82 => ⟨S2x16384x4x128, .f32⟩
  | 83 => ⟨S2x16384x512, .f32⟩
  | 84 => ⟨S1x1x512, .f32⟩
  | 85 => ⟨S2x16384x512, .f32⟩
  | 86 => ⟨S2x16384x512, .f32⟩
  | 87 => ⟨S2x16384x512, .f32⟩
  | 88 => ⟨S2x16384x512, .f32⟩
  | 89 => ⟨S_, .f32⟩
  | 90 => ⟨S2x16384x512, .f32⟩
  | 91 => ⟨S2x16384x512, .f32⟩
  | 92 => ⟨S_, .f32⟩
  | 93 => ⟨S2x16384x512, .f32⟩
  | 94 => ⟨S2x16384x512, .f32⟩
  | 95 => ⟨S2x16384x512, .f32⟩
  | 96 => ⟨S2x16384x512, .f32⟩
  | 97 => ⟨S32768x512, .f32⟩
  | 98 => ⟨S32768x512, .bf16⟩
  | _ => ⟨S32768x3072, .f32⟩

abbrev hbmTy (i : Nat) : BufTy := match i / 128 with
  | 0 => hbmTy0_0 i
  | 1 => hbmTy0_1 i
  | _ => ⟨S32768x3072, .f32⟩

abbrev bufTy : (tb : Table) → Fin (tcTables nBuf tb) → BufTy
  | .hbm, ⟨i, _⟩ => hbmTy i
  | _, _ => ⟨S32768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst_1 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_cst_3 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_cst_4 : Ref sig .tc := ⟨.hbm, 83, rfl⟩
abbrev main_v76 : Ref sig .tc := ⟨.hbm, 84, rfl⟩
abbrev main_v77 : Ref sig .tc := ⟨.hbm, 85, rfl⟩
abbrev main_cst_5 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_cst_6 : Ref sig .tc := ⟨.hbm, 101, rfl⟩
abbrev main_v92 : Ref sig .tc := ⟨.hbm, 102, rfl⟩
abbrev main_v93 : Ref sig .tc := ⟨.hbm, 103, rfl⟩
abbrev main_cst_7 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_cst_8 : Ref sig .tc := ⟨.hbm, 113, rfl⟩
abbrev main_call0_v0 : Ref sig .tc := ⟨.hbm, 114, rfl⟩
abbrev main_call0_v1 : Ref sig .tc := ⟨.hbm, 115, rfl⟩
abbrev main_call0_v2 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_cst_9 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_cst_10 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_cst_11 : Ref sig .tc := ⟨.hbm, 143, rfl⟩
abbrev main_v126 : Ref sig .tc := ⟨.hbm, 144, rfl⟩
abbrev main_cst_12 : Ref sig .tc := ⟨.hbm, 145, rfl⟩
abbrev main_v127 : Ref sig .tc := ⟨.hbm, 146, rfl⟩
abbrev main_c : Ref sig .tc := ⟨.hbm, 147, rfl⟩
abbrev main_v128_0 : Ref sig .tc := ⟨.hbm, 148, rfl⟩
abbrev main_v128_1 : Ref sig .tc := ⟨.hbm, 149, rfl⟩
abbrev main_v128_2 : Ref sig .tc := ⟨.hbm, 150, rfl⟩
abbrev main_v128_3 : Ref sig .tc := ⟨.hbm, 151, rfl⟩
abbrev main_v128_4 : Ref sig .tc := ⟨.hbm, 152, rfl⟩
abbrev main_while0c_c_23 : Ref sig .tc := ⟨.hbm, 153, rfl⟩
abbrev main_while0c_v169 : Ref sig .tc := ⟨.hbm, 154, rfl⟩
abbrev main_while0b_call1_c : Ref sig .tc := ⟨.hbm, 155, rfl⟩
abbrev main_while0b_call1_c_0 : Ref sig .tc := ⟨.hbm, 156, rfl⟩
abbrev main_while0b_call1_c_1 : Ref sig .tc := ⟨.hbm, 157, rfl⟩
abbrev main_while0b_call1_c_2 : Ref sig .tc := ⟨.hbm, 158, rfl⟩
abbrev main_while0b_call1_v0 : Ref sig .tc := ⟨.hbm, 159, rfl⟩
abbrev main_while0b_v169 : Ref sig .tc := ⟨.hbm, 160, rfl⟩
abbrev main_while0b_v170 : Ref sig .tc := ⟨.hbm, 161, rfl⟩
abbrev main_while0b_v171 : Ref sig .tc := ⟨.hbm, 162, rfl⟩
abbrev main_while0b_v172 : Ref sig .tc := ⟨.hbm, 163, rfl⟩
abbrev main_while0b_v173 : Ref sig .tc := ⟨.hbm, 164, rfl⟩
abbrev main_while0b_call2_v0 : Ref sig .tc := ⟨.hbm, 165, rfl⟩
abbrev main_while0b_call2_c : Ref sig .tc := ⟨.hbm, 166, rfl⟩
abbrev main_while0b_call2_c_0 : Ref sig .tc := ⟨.hbm, 167, rfl⟩
abbrev main_while0b_call2_c_1 : Ref sig .tc := ⟨.hbm, 168, rfl⟩
abbrev main_while0b_call2_c_2 : Ref sig .tc := ⟨.hbm, 169, rfl⟩
abbrev main_while0b_v174 : Ref sig .tc := ⟨.hbm, 170, rfl⟩
abbrev main_while0b_c_23 : Ref sig .tc := ⟨.hbm, 171, rfl⟩
abbrev main_while0b_v175 : Ref sig .tc := ⟨.hbm, 172, rfl⟩
abbrev main_cst_13 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_14 : Ref sig .tc := ⟨.hbm, 189, rfl⟩
abbrev main_v144 : Ref sig .tc := ⟨.hbm, 190, rfl⟩
abbrev main_v145 : Ref sig .tc := ⟨.hbm, 191, rfl⟩
abbrev main_cst_15 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_16 : Ref sig .tc := ⟨.hbm, 198, rfl⟩
abbrev main_v151 : Ref sig .tc := ⟨.hbm, 199, rfl⟩
abbrev main_v152 : Ref sig .tc := ⟨.hbm, 200, rfl⟩
abbrev main_cst_17 : Ref sig .tc := ⟨.hbm, 201, rfl⟩
abbrev main_v153 : Ref sig .tc := ⟨.hbm, 202, rfl⟩
abbrev main_v154 : Ref sig .tc := ⟨.hbm, 203, rfl⟩
abbrev main_cst_18 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_call3_v0 : Ref sig .tc := ⟨.hbm, 215, rfl⟩
abbrev main_call3_v1 : Ref sig .tc := ⟨.hbm, 216, rfl⟩
abbrev main_call3_cst : Ref sig .tc := ⟨.hbm, 217, rfl⟩
abbrev main_call3_v2 : Ref sig .tc := ⟨.hbm, 218, rfl⟩
abbrev main_call3_v3 : Ref sig .tc := ⟨.hbm, 219, rfl⟩
abbrev main_call3_cst_0 : Ref sig .tc := ⟨.hbm, 220, rfl⟩
abbrev main_call3_v4 : Ref sig .tc := ⟨.hbm, 221, rfl⟩
abbrev main_call3_v5 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩

abbrev nD : Nat := 1
abbrev τ : Topo := Topo.v7x

variable {F : FTy → Type} [FloatOps F]

abbrev main_while0_count : Scf.Loop 32 := ⟨0#32, 256#32, 1#32⟩
-- ==== Kernel4.lean ====
abbrev S32768x1024 : Shape := ⟨2, ![32768, 1024]⟩
abbrev S1024x3072 : Shape := ⟨2, ![1024, 3072]⟩
abbrev S32768x3072 : Shape := ⟨2, ![32768, 3072]⟩
abbrev S512x1024 : Shape := ⟨2, ![512, 1024]⟩
abbrev S512x3072 : Shape := ⟨2, ![512, 3072]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x3072, .f32⟩
  | .hbm, ⟨2, _⟩ => ⟨S1024x3072, .bf16⟩
  | .hbm, ⟨3, _⟩ => ⟨S32768x3072, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .f32⟩
  | .local _ .vmem, ⟨4, _⟩ => ⟨S512x3072, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S32768x1024 : Shape := ⟨2, ![32768, 1024]⟩
abbrev S1024x3072 : Shape := ⟨2, ![1024, 3072]⟩
abbrev S32768x3072 : Shape := ⟨2, ![32768, 3072]⟩

abbrev nBuf : Space → Nat
  | .hbm => 3
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3072, .f32⟩
  | .hbm, ⟨2, _⟩ => ⟨S32768x3072, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel2.lean ====
abbrev S136 : Shape := ⟨1, ![136]⟩
abbrev S69632x1024 : Shape := ⟨2, ![69632, 1024]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1 : Shape := ⟨1, ![1]⟩
abbrev S1x1792x1024 : Shape := ⟨3, ![1, 1792, 1024]⟩
abbrev S1024x1792 : Shape := ⟨2, ![1024, 1792]⟩
abbrev S1792x1024 : Shape := ⟨2, ![1792, 1024]⟩
abbrev S256x1024 : Shape := ⟨2, ![256, 1024]⟩
abbrev S256x1792 : Shape := ⟨2, ![256, 1792]⟩

abbrev nBuf : Space → Nat
  | .hbm => 5
  | .vmem => 11
  | .smem => 1
  | _ => 0

abbrev bufTy : (tb : Table) → Fin (tcTables nBuf tb) → BufTy
  | .hbm, ⟨0, _⟩ => ⟨S69632x1024, .bf16⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S69632x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .smem, ⟨0, _⟩ => ⟨S136, .i32⟩
  | _, _ => ⟨S69632x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32_25 : BitVec 32 := 1#32
  let v42 : BitVec 1 := Scalar.cmpi .eq arg1 c1_i32_25
  let v43 : BitVec 32 := Scalar.extui v42
  let c0_i32_26 : BitVec 32 := 0#32
  let v44 : BitVec 1 := Scalar.cmpi .ne v43 c0_i32_26
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S136 : Shape := ⟨1, ![136]⟩
abbrev S69632x1024 : Shape := ⟨2, ![69632, 1024]⟩
abbrev S8x1024x3584 : Shape := ⟨3, ![8, 1024, 3584]⟩
abbrev S8x3584x1024 : Shape := ⟨3, ![8, 3584, 1024]⟩
abbrev S136x4 : Shape := ⟨2, ![136, 4]⟩
abbrev S544 : Shape := ⟨1, ![544]⟩
abbrev S544x128x1024 : Shape := ⟨3, ![544, 128, 1024]⟩
abbrev S_ : Shape := ⟨0, ![]⟩
abbrev S544x1 : Shape := ⟨2, ![544, 1]⟩
abbrev S544x3 : Shape := ⟨2, ![544, 3]⟩
abbrev S544x1x1024x3584 : Shape := ⟨4, ![544, 1, 1024, 3584]⟩
abbrev S544x1024x3584 : Shape := ⟨3, ![544, 1024, 3584]⟩
abbrev S544x1x3584x1024 : Shape := ⟨4, ![544, 1, 3584, 1024]⟩
abbrev S544x3584x1024 : Shape := ⟨3, ![544, 3584, 1024]⟩
abbrev S544x128x3584 : Shape := ⟨3, ![544, 128, 3584]⟩

abbrev nBuf : Space → Nat
  | .hbm => 114
  | .vmem => 0
  | .smem => 0
  | _ => 0

abbrev bufTy : (tb : Table) → Fin (tcTables nBuf tb) → BufTy
  | .hbm, ⟨0, _⟩ => ⟨S136, .i32⟩
  | .hbm, ⟨1, _⟩ => ⟨S69632x1024, .bf16⟩
  | .hbm, ⟨2, _⟩ => ⟨S8x1024x3584, .bf16⟩
  | .hbm, ⟨3, _⟩ => ⟨S8x1024x3584, .bf16⟩
  | .hbm, ⟨4, _⟩ => ⟨S8x3584x1024, .bf16⟩
  | .hbm, ⟨5, _⟩ => ⟨S136x4, .i32⟩
  | .hbm, ⟨6, _⟩ => ⟨S544, .i32⟩
  | .hbm, ⟨7, _⟩ => ⟨S544x128x1024, .bf16⟩
  | .hbm, ⟨8, _⟩ => ⟨S_, .i32⟩
  | .hbm, ⟨9, _⟩ => ⟨S544, .i32⟩
  | .hbm, ⟨10, _⟩ => ⟨S544, .i1⟩
  | .hbm, ⟨11, _⟩ => ⟨S_, .i32⟩
  | .hbm, ⟨12, _⟩ => ⟨S544, .i32⟩
  | .hbm, ⟨13, _⟩ => ⟨S544, .i32⟩
  | .hbm, ⟨14, _⟩ => ⟨S544, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S544x1, .i32⟩
  | .hbm, ⟨32, _⟩ => ⟨S544x1, .i32⟩
  | .hbm, ⟨33, _⟩ => ⟨S544x1, .i32⟩
  | .hbm, ⟨34, _⟩ => ⟨S544x3, .i32⟩
  | .hbm, ⟨35, _⟩ => ⟨S544x1x1024x3584, .bf16⟩
  | .hbm, ⟨36, _⟩ => ⟨S544x1024x3584, .bf16⟩
  | .hbm, ⟨37, _⟩ => ⟨S_, .i32⟩
  | .hbm, ⟨38, _⟩ => ⟨S544, .i32⟩
  | .hbm, ⟨39, _⟩ => ⟨S544, .i1⟩
  | .hbm, ⟨40, _⟩ => ⟨S_, .i32⟩
  | .hbm, ⟨41, _⟩ => ⟨S544, .i32⟩
  | .hbm, ⟨42, _⟩ => ⟨S544, .i32⟩
  | .hbm, ⟨43, _⟩ => ⟨S544, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S544x1, .i32⟩
  | .hbm, ⟨61, _⟩ => ⟨S544x1, .i32⟩
  | .hbm, ⟨62, _⟩ => ⟨S544x1, .i32⟩
  | .hbm, ⟨63, _⟩ => ⟨S544x3, .i32⟩
  | .hbm, ⟨64, _⟩ => ⟨S544x1x1024x3584, .bf16⟩
  | .hbm, ⟨65, _⟩ => ⟨S544x1024x3584, .bf16⟩
  | .hbm, ⟨66, _⟩ => ⟨S_, .i32⟩
  | .hbm, ⟨67, _⟩ => ⟨S544, .i32⟩
  | .hbm, ⟨68, _⟩ => ⟨S544, .i1⟩
  | .hbm, ⟨69, _⟩ => ⟨S_, .i32⟩
  | .hbm, ⟨70, _⟩ => ⟨S544, .i32⟩
  | .hbm, ⟨71, _⟩ => ⟨S544, .i32⟩
  | .hbm, ⟨72, _⟩ => ⟨S544, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i1⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S544x1, .i32⟩
  | .hbm, ⟨90, _⟩ => ⟨S544x1, .i32⟩
  | .hbm, ⟨91, _⟩ => ⟨S544x1, .i32⟩
  | .hbm, ⟨92, _⟩ => ⟨S544x3, .i32⟩
  | .hbm, ⟨93, _⟩ => ⟨S544x1x3584x1024, .bf16⟩
  | .hbm, ⟨94, _⟩ => ⟨S544x3584x1024, .bf16⟩
  | .hbm, ⟨95, _⟩ => ⟨S544x128x1024, .f32⟩
  | .hbm, ⟨96, _⟩ => ⟨S544x1024x3584, .f32⟩
  | .hbm, ⟨97, _⟩ => ⟨S544x1024x3584, .f32⟩
  | .hbm, ⟨98, _⟩ => ⟨S544x3584x1024, .f32⟩
  | .hbm, ⟨99, _⟩ => ⟨S544x128x3584, .f32⟩
  | .hbm, ⟨100, _⟩ => ⟨S544x128x3584, .f32⟩
  | .hbm, ⟨101, _⟩ => ⟨S544x128x3584, .f32⟩
  | .hbm, ⟨102, _⟩ => ⟨S_, .f32⟩
  | .hbm, ⟨103, _⟩ => ⟨S544x128x3584, .f32⟩
  | .hbm, ⟨104, _⟩ => ⟨S544x128x3584, .f32⟩
  | .hbm, ⟨105, _⟩ => ⟨S_, .f32⟩
  | .hbm, ⟨106, _⟩ => ⟨S544x128x3584, .f32⟩
  | .hbm, ⟨107, _⟩ => ⟨S544x128x3584, .f32⟩
  | .hbm, ⟨108, _⟩ => ⟨S544x128x3584, .f32⟩
  | .hbm, ⟨109, _⟩ => ⟨S544x128x3584, .f32⟩
  | .hbm, ⟨110, _⟩ => ⟨S544x128x3584, .f32⟩
  | .hbm, ⟨111, _⟩ => ⟨S544x128x1024, .f32⟩
  | .hbm, ⟨112, _⟩ => ⟨S69632x1024, .f32⟩
  | .hbm, ⟨113, _⟩ => ⟨S69632x1024, .bf16⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_c_2 : Ref sig .tc := ⟨.hbm, 16, rfl⟩
abbrev main_v8 : Ref sig .tc := ⟨.hbm, 17, rfl⟩
abbrev main_c_3 : Ref sig .tc := ⟨.hbm, 18, rfl⟩
abbrev main_c_4 : Ref sig .tc := ⟨.hbm, 19, rfl⟩
abbrev main_v9 : Ref sig .tc := ⟨.hbm, 20, rfl⟩
abbrev main_c_5 : Ref sig .tc := ⟨.hbm, 21, rfl⟩
abbrev main_v10 : Ref sig .tc := ⟨.hbm, 22, rfl⟩
abbrev main_c_6 : Ref sig .tc := ⟨.hbm, 23, rfl⟩
abbrev main_c_7 : Ref sig .tc := ⟨.hbm, 24, rfl⟩
abbrev main_v11 : Ref sig .tc := ⟨.hbm, 25, rfl⟩
abbrev main_c_8 : Ref sig .tc := ⟨.hbm, 26, rfl⟩
abbrev main_c_9 : Ref sig .tc := ⟨.hbm, 27, rfl⟩
abbrev main_v12 : Ref sig .tc := ⟨.hbm, 28, rfl⟩
abbrev main_c_10 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_11 : Ref sig .tc := ⟨.hbm, 37, rfl⟩
abbrev main_v20 : Ref sig .tc := ⟨.hbm, 38, rfl⟩
abbrev main_v21 : Ref sig .tc := ⟨.hbm, 39, rfl⟩
abbrev main_c_12 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_13 : Ref sig .tc := ⟨.hbm, 44, rfl⟩
abbrev main_c_14 : Ref sig .tc := ⟨.hbm, 45, rfl⟩
abbrev main_v25 : Ref sig .tc := ⟨.hbm, 46, rfl⟩
abbrev main_c_15 : Ref sig .tc := ⟨.hbm, 47, rfl⟩
abbrev main_c_16 : Ref sig .tc := ⟨.hbm, 48, rfl⟩
abbrev main_v26 : Ref sig .tc := ⟨.hbm, 49, rfl⟩
abbrev main_c_17 : Ref sig .tc := ⟨.hbm, 50, rfl⟩
abbrev main_v27 : Ref sig .tc := ⟨.hbm, 51, rfl⟩
abbrev main_c_18 : Ref sig .tc := ⟨.hbm, 52, rfl⟩
abbrev main_c_19 : Ref sig .tc := ⟨.hbm, 53, rfl⟩
abbrev main_v28 : Ref sig .tc := ⟨.hbm, 54, rfl⟩
abbrev main_c_20 : Ref sig .tc := ⟨.hbm, 55, rfl⟩
abbrev main_c_21 : Ref sig .tc := ⟨.hbm, 56, rfl⟩
abbrev main_v29 : Ref sig .tc := ⟨.hbm, 57, rfl⟩
abbrev main_c_22 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_23 : Ref sig .tc := ⟨.hbm, 66, rfl⟩
abbrev main_v37 : Ref sig .tc := ⟨.hbm, 67, rfl⟩
abbrev main_v38 : Ref sig .tc := ⟨.hbm, 68, rfl⟩
abbrev main_c_24 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_25 : Ref sig .tc := ⟨.hbm, 73, rfl⟩
abbrev main_c_26 : Ref sig .tc := ⟨.hbm, 74, rfl⟩
abbrev main_v42 : Ref sig .tc := ⟨.hbm, 75, rfl⟩
abbrev main_c_27 : Ref sig .tc := ⟨.hbm, 76, rfl⟩
abbrev main_c_28 : Ref sig .tc := ⟨.hbm, 77, rfl⟩
abbrev main_v43 : Ref sig .tc := ⟨.hbm, 78, rfl⟩
abbrev main_c_29 : Ref sig .tc := ⟨.hbm, 79, rfl⟩
abbrev main_v44 : Ref sig .tc := ⟨.hbm, 80, rfl⟩
abbrev main_c_30 : Ref sig .tc := ⟨.hbm, 81, rfl⟩
abbrev main_c_31 : Ref sig .tc := ⟨.hbm, 82, rfl⟩
abbrev main_v45 : Ref sig .tc := ⟨.hbm, 83, rfl⟩
abbrev main_c_32 : Ref sig .tc := ⟨.hbm, 84, rfl⟩
abbrev main_c_33 : Ref sig .tc := ⟨.hbm, 85, rfl⟩
abbrev main_v46 : Ref sig .tc := ⟨.hbm, 86, rfl⟩
abbrev main_c_34 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_call0_v0 : Ref sig .tc := ⟨.hbm, 100, rfl⟩
abbrev main_call0_v1 : Ref sig .tc := ⟨.hbm, 101, rfl⟩
abbrev main_call0_cst : Ref sig .tc := ⟨.hbm, 102, rfl⟩
abbrev main_call0_v2 : Ref sig .tc := ⟨.hbm, 103, rfl⟩
abbrev main_call0_v3 : Ref sig .tc := ⟨.hbm, 104, rfl⟩
abbrev main_call0_cst_0 : Ref sig .tc := ⟨.hbm, 105, rfl⟩
abbrev main_call0_v4 : Ref sig .tc := ⟨.hbm, 106, rfl⟩
abbrev main_call0_v5 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩

abbrev nD : Nat := 1
abbrev τ : Topo := Topo.v7x

variable {F : FTy → Type} [FloatOps F]
-- ==== Kernel3.lean ====
abbrev S32768x1024 : Shape := ⟨2, ![32768, 1024]⟩
abbrev S32768x256 : Shape := ⟨2, ![32768, 256]⟩
abbrev S1024x2752 : Shape := ⟨2, ![1024, 2752]⟩
abbrev S2752x1024 : Shape := ⟨2, ![2752, 1024]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x256 : Shape := ⟨2, ![512, 256]⟩
abbrev S1024x1408 : Shape := ⟨2, ![1024, 1408]⟩
abbrev S1408x1024 : Shape := ⟨2, ![1408, 1024]⟩
abbrev S256x1408 : Shape := ⟨2, ![256, 1408]⟩
abbrev S512 : Shape := ⟨1, ![512]⟩
abbrev S512x1 : Shape := ⟨2, ![512, 1]⟩

abbrev nBuf : Space → Nat
  | .hbm => 26
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S1024x2752, .f32⟩
  | .hbm, ⟨3, _⟩ => ⟨S1024x2752, .f32⟩
  | .hbm, ⟨4, _⟩ => ⟨S2752x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S1024x2752, .bf16⟩
  | .hbm, ⟨10, _⟩ => ⟨S_, .i32⟩
  | .hbm, ⟨11, _⟩ => ⟨S_, .bf16⟩
  | .hbm, ⟨12, _⟩ => ⟨S1024x2816, .bf16⟩
  | .hbm, ⟨13, _⟩ => ⟨S1024x2752, .bf16⟩
  | .hbm, ⟨14, _⟩ => ⟨S_, .i32⟩
  | .hbm, ⟨15, _⟩ => ⟨S_, .bf16⟩
  | .hbm, ⟨16, _⟩ => ⟨S1024x2816, .bf16⟩
  | .hbm, ⟨17, _⟩ => ⟨S2752x1024, .bf16⟩
  | .hbm, ⟨18, _⟩ => ⟨S_, .i32⟩
  | .hbm, ⟨19, _⟩ => ⟨S_, .bf16⟩
  | .hbm, ⟨20, _⟩ => ⟨S2816x1024, .bf16⟩
  | .hbm, ⟨21, _⟩ => ⟨S1x1024, .f32⟩
  | .hbm, ⟨22, _⟩ => ⟨S1x1024, .f32⟩
  | .hbm, ⟨23, _⟩ => ⟨S1024x1024, .bf16⟩
  | .hbm, ⟨24, _⟩ => ⟨S256x1024, .bf16⟩
  | .hbm, ⟨25, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S256x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_call2_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![64, 2], ![false, false]⟩

def k0_cond4 (i : grid0.Coords) : BitVec 1 :=
  let arg1 : BitVec 32 := BitVec.ofNat 32 (i 1).val
  let c1_i32_24 : BitVec 32 := 1#32
  let v45 : BitVec 1 := Scalar.cmpi .eq arg1 c1_i32_24
  let v46 : BitVec 32 := Scalar.extui v45
  let c0_i32_25 : BitVec 32 := 0#32
  let v47 : BitVec 1 := Scalar.cmpi .ne v46 c0_i32_25
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S32768x1024 : Shape := ⟨2, ![32768, 1024]⟩
abbrev S32768x256 : Shape := ⟨2, ![32768, 256]⟩
abbrev S1024x2752 : Shape := ⟨2, ![1024, 2752]⟩
abbrev S2752x1024 : Shape := ⟨2, ![2752, 1024]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S32768x2752 : Shape := ⟨2, ![32768, 2752]⟩
abbrev S32768 : Shape := ⟨1, ![32768]⟩
abbrev S32768x1 : Shape := ⟨2, ![32768, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S1024x2752, .f32⟩
  | .hbm, ⟨3, _⟩ => ⟨S1024x2752, .f32⟩
  | .hbm, ⟨4, _⟩ => ⟨S2752x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S32768x2752, .f32⟩
  | .hbm, ⟨13, _⟩ => ⟨S32768x2752, .f32⟩
  | .hbm, ⟨14, _⟩ => ⟨S32768x2752, .f32⟩
  | .hbm, ⟨15, _⟩ => ⟨S_, .f32⟩
  | .hbm, ⟨16, _⟩ => ⟨S32768x2752, .f32⟩
  | .hbm, ⟨17, _⟩ => ⟨S32768x2752, .f32⟩
  | .hbm, ⟨18, _⟩ => ⟨S_, .f32⟩
  | .hbm, ⟨19, _⟩ => ⟨S32768x2752, .f32⟩
  | .hbm, ⟨20, _⟩ => ⟨S32768x2752, .f32⟩
  | .hbm, ⟨21, _⟩ => ⟨S32768x2752, .f32⟩
  | .hbm, ⟨22, _⟩ => ⟨S32768x2752, .f32⟩
  | .hbm, ⟨23, _⟩ => ⟨S32768x2752, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x1024, .f32⟩
  | .hbm, ⟨46, _⟩ => ⟨S32768x1024, .f32⟩
  | .hbm, ⟨47, _⟩ => ⟨S1x1024, .f32⟩
  | .hbm, ⟨48, _⟩ => ⟨S32768x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768x1024, .f32⟩
  | .hbm, ⟨58, _⟩ => ⟨S32768x1024, .f32⟩
  | .hbm, ⟨59, _⟩ => ⟨S_, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]
-- ==== Kernel6.lean ====
abbrev S32768x1024 : Shape := ⟨2, ![32768, 1024]⟩
abbrev S1024x2048 : Shape := ⟨2, ![1024, 2048]⟩
abbrev S1024x640 : Shape := ⟨2, ![1024, 640]⟩
abbrev S512x1024 : Shape := ⟨2, ![512, 1024]⟩
abbrev S32768x2048 : Shape := ⟨2, ![32768, 2048]⟩
abbrev S32768x640 : Shape := ⟨2, ![32768, 640]⟩
abbrev S128x512x256 : Shape := ⟨3, ![128, 512, 256]⟩
abbrev S512x2048 : Shape := ⟨2, ![512, 2048]⟩
abbrev S512x640 : Shape := ⟨2, ![512, 640]⟩
abbrev S2x512x256 : Shape := ⟨3, ![2, 512, 256]⟩
abbrev S256x1024 : Shape := ⟨2, ![256, 1024]⟩
abbrev S512x256 : Shape := ⟨2, ![512, 256]⟩
abbrev S1x512x256 : Shape := ⟨3, ![1, 512, 256]⟩

abbrev nBuf : Space → Nat
  | .hbm => 7
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024x2048, .bf16⟩
  | .hbm, ⟨2, _⟩ => ⟨S1024x640, .bf16⟩
  | .hbm, ⟨3, _⟩ => ⟨S512x1024, .bf16⟩
  | .hbm, ⟨4, _⟩ => ⟨S32768x2048, .bf16⟩
  | .hbm, ⟨5, _⟩ => ⟨S32768x640, .f32⟩
  | .hbm, ⟨6, _⟩ => ⟨S128x512x256, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1024x640, .bf16⟩
  | .local _ .vmem, ⟨4, _⟩ => ⟨S512x1024, .bf16⟩
  | .local _ .vmem, ⟨5, _⟩ => ⟨S512x2048, .bf16⟩
  | .local _ .vmem, ⟨6, _⟩ => ⟨S512x2048, .bf16⟩
  | .local _ .vmem, ⟨7, _⟩ => ⟨S512x640, .f32⟩
  | .local _ .vmem, ⟨8, _⟩ => ⟨S512x640, .f32⟩
  | .local _ .vmem, ⟨9, _⟩ => ⟨S2x512x256, .bf16⟩
  | .local _ .vmem, ⟨10, _⟩ => ⟨S2x512x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S32768x1024 : Shape := ⟨2, ![32768, 1024]⟩
abbrev S1024x2048 : Shape := ⟨2, ![1024, 2048]⟩
abbrev S1024x640 : Shape := ⟨2, ![1024, 640]⟩
abbrev S512x1024 : Shape := ⟨2, ![512, 1024]⟩
abbrev S1024x512 : Shape := ⟨2, ![1024, 512]⟩
abbrev S32768x512 : Shape := ⟨2, ![32768, 512]⟩
abbrev S128x256x512 : Shape := ⟨3, ![128, 256, 512]⟩
abbrev S32768x2048 : Shape := ⟨2, ![32768, 2048]⟩
abbrev S32768x640 : Shape := ⟨2, ![32768, 640]⟩
abbrev S128x512x256 : Shape := ⟨3, ![128, 512, 256]⟩

abbrev nBuf : Space → Nat
  | .hbm => 12
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2048, .bf16⟩
  | .hbm, ⟨2, _⟩ => ⟨S1024x640, .bf16⟩
  | .hbm, ⟨3, _⟩ => ⟨S512x1024, .bf16⟩
  | .hbm, ⟨4, _⟩ => ⟨S1024x512, .bf16⟩
  | .hbm, ⟨5, _⟩ => ⟨S32768x512, .f32⟩
  | .hbm, ⟨6, _⟩ => ⟨S128x256x512, .f32⟩
  | .hbm, ⟨7, _⟩ => ⟨S32768x2048, .f32⟩
  | .hbm, ⟨8, _⟩ => ⟨S32768x2048, .bf16⟩
  | .hbm, ⟨9, _⟩ => ⟨S32768x640, .f32⟩
  | .hbm, ⟨10, _⟩ => ⟨S128x512x256, .f32⟩
  | .hbm, ⟨11, _⟩ => ⟨S128x512x256, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S512x1024, .f32⟩
  | .hbm, ⟨7, _⟩ => ⟨S512x1024, .bf16⟩
  | .hbm, ⟨8, _⟩ => ⟨S512x1024, .f32⟩
  | .hbm, ⟨9, _⟩ => ⟨S512x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S32768x1024, .bf16⟩
  | .hbm, ⟨7, _⟩ => ⟨S32768x1024, .f32⟩
  | .hbm, ⟨8, _⟩ => ⟨S32768x1024, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel5.lean ====
abbrev S32768x1024 : Shape := ⟨2, ![32768, 1024]⟩
abbrev S65536x1024 : Shape := ⟨2, ![65536, 1024]⟩
abbrev S32768x2 : Shape := ⟨2, ![32768, 2]⟩
abbrev S32768x256 : Shape := ⟨2, ![32768, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S32768x128 : Shape := ⟨2, ![32768, 128]⟩
abbrev S1 : Shape := ⟨1, ![1]⟩
abbrev S512x1024 : Shape := ⟨2, ![512, 1024]⟩
abbrev S512x128 : Shape := ⟨2, ![512, 128]⟩
abbrev S512x256 : Shape := ⟨2, ![512, 256]⟩
abbrev S512x1 : Shape := ⟨2, ![512, 1]⟩
abbrev S512 : Shape := ⟨1, ![512]⟩

abbrev nBuf : Space → Nat
  | .hbm => 18
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S65536x1024, .bf16⟩
  | .hbm, ⟨2, _⟩ => ⟨S32768x2, .f32⟩
  | .hbm, ⟨3, _⟩ => ⟨S32768x256, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S1x1024, .f32⟩
  | .hbm, ⟨9, _⟩ => ⟨S1x1024, .f32⟩
  | .hbm, ⟨10, _⟩ => ⟨S1024x1024, .bf16⟩
  | .hbm, ⟨11, _⟩ => ⟨S256x1024, .bf16⟩
  | .hbm, ⟨12, _⟩ => ⟨S_, .f32⟩
  | .hbm, ⟨13, _⟩ => ⟨S32768x128, .f32⟩
  | .hbm, ⟨14, _⟩ => ⟨S_, .i32⟩
  | .hbm, ⟨15, _⟩ => ⟨S1, .i32⟩
  | .hbm, ⟨16, _⟩ => ⟨S32768x128, .f32⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S512x256, .f32⟩
  | .local _ .vmem, ⟨9, _⟩ => ⟨S512x256, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S256x1024, .bf16⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S32768x1024 : Shape := ⟨2, ![32768, 1024]⟩
abbrev S65536x1024 : Shape := ⟨2, ![65536, 1024]⟩
abbrev S32768x2 : Shape := ⟨2, ![32768, 2]⟩
abbrev S32768x256 : Shape := ⟨2, ![32768, 256]⟩
abbrev S1024 : Shape := ⟨1, ![1024]⟩
abbrev S1024x1024 : Shape := ⟨2, ![1024, 1024]⟩
abbrev S256x1024 : Shape := ⟨2, ![256, 1024]⟩
abbrev S2x32768x1024 : Shape := ⟨3, ![2, 32768, 1024]⟩
abbrev S1x32768x1024 : Shape := ⟨3, ![1, 32768, 1024]⟩
abbrev S32768x1 : Shape := ⟨2, ![32768, 1]⟩
abbrev S_ : Shape := ⟨0, ![]⟩
abbrev S32768 : Shape := ⟨1, ![32768]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S65536x1024, .bf16⟩
  | .hbm, ⟨2, _⟩ => ⟨S32768x2, .f32⟩
  | .hbm, ⟨3, _⟩ => ⟨S32768x256, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S2x32768x1024, .bf16⟩
  | .hbm, ⟨9, _⟩ => ⟨S2x32768x1024, .f32⟩
  | .hbm, ⟨10, _⟩ => ⟨S1x32768x1024, .f32⟩
  | .hbm, ⟨11, _⟩ => ⟨S32768x1024, .f32⟩
  | .hbm, ⟨12, _⟩ => ⟨S32768x1, .f32⟩
  | .hbm, ⟨13, _⟩ => ⟨S32768x1024, .f32⟩
  | .hbm, ⟨14, _⟩ => ⟨S32768x1024, .f32⟩
  | .hbm, ⟨15, _⟩ => ⟨S1x32768x1024, .f32⟩
  | .hbm, ⟨16, _⟩ => ⟨S32768x1024, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S_, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Proof.RetChunk.lean ====
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Ret

open Idealize.ShloMosaic Idealize.ShloMosaic.TcCoe Idealize.SL.Sem
open Cert.KernelIdeal Cert.KernelIdeal.Gen

/-! ## Words that compare a lane number -/

theorem lt64 : ∀ x : Fin 128, IntOp.cmpi CmpIPredicate.slt (BitVec.ofNat 32 x.val) 64#32 = if x.val < 64 then 1#1 else 0#1 := by
  decide +kernel
theorem ge64 : ∀ x : Fin 128, IntOp.cmpi CmpIPredicate.sge (BitVec.ofNat 32 x.val) 64#32 = if x.val < 64 then 0#1 else 1#1 := by
  decide +kernel
theorem lt128 : ∀ x : Fin 256, IntOp.cmpi CmpIPredicate.slt (BitVec.ofNat 32 x.val) 128#32 = if x.val < 128 then 1#1 else 0#1 := by
  decide +kernel
theorem ge128 : ∀ x : Fin 256, IntOp.cmpi CmpIPredicate.sge (BitVec.ofNat 32 x.val) 128#32 = if x.val < 128 then 0#1 else 1#1 := by
  decide +kernel

/-- A sum over 128 lanes that keeps the first 64. -/
theorem sum_lo (f : Fin 128 → EReal) :
    (∑ x : Fin 128, Scalar.select (IntOp.cmpi CmpIPredicate.slt (BitVec.ofNat 32 x.val) 64#32) (f x) 0)
      = ∑ d : Fin 64, f ⟨64 * 0 + d.val, by omega⟩ := by
  rw [Fin.sum_univ_two_halves 64 64 rfl]
  have e1 : ∀ d : Fin 64, IntOp.cmpi CmpIPredicate.slt (BitVec.ofNat 32 d.val) 64#32 = 1#1 := by decide +kernel
  have e2 : ∀ d : Fin 64, IntOp.cmpi CmpIPredicate.slt (BitVec.ofNat 32 (64 + d.val)) 64#32 = 0#1 := by decide +kernel
  simp only [e1, e2, Scalar.select]
  simp

/-- A sum over 128 lanes that keeps the last 64. -/
theorem sum_hi (f : Fin 128 → EReal) :
    (∑ x : Fin 128, Scalar.select (IntOp.cmpi CmpIPredicate.sge (BitVec.ofNat 32 x.val) 64#32) (f x) 0)
      = ∑ d : Fin 64, f ⟨64 * 1 + d.val, by omega⟩ := by
  rw [Fin.sum_univ_two_halves 64 64 rfl]
  have e1 : ∀ d : Fin 64, IntOp.cmpi CmpIPredicate.sge (BitVec.ofNat 32 d.val) 64#32 = 0#1 := by decide +kernel
  have e2 : ∀ d : Fin 64, IntOp.cmpi CmpIPredicate.sge (BitVec.ofNat 32 (64 + d.val)) 64#32 = 1#1 := by decide +kernel
  simp only [e1, e2, Scalar.select]
  simp

/-! ## One chunk of one pair of heads -/

section
variable (V : FVec Ideal S512x256 .bf16) (Q K QI KO : FVec Ideal S512x128 .bf16) (DM : FVec Ideal S64x128 .f32)
  (GC : FVec Ideal S1x128 .f32)

/-- The state after the chunk that starts at row `o` of the tile. -/
def upd (o : ℕ) (ho : o ≤ 448) (st : FVec Ideal S256x128 .f32) : FVec Ideal S256x128 .f32 := fun j =>
  st j * GC (ix2 0 (j 1)) + if ((j 0 : ℕ) < 128 ↔ (j 1 : ℕ) < 64) then
    ∑ s : Fin 64, V (ix2 ⟨o + s.val, by omega⟩ (j 0)) * KO (ix2 ⟨o + s.val, by omega⟩ (j 1)) else 0

/-- The rows of the chunk that starts at row `o` of the tile, from the state before it. -/
def outp (o : ℕ) (ho : o ≤ 448) (st : FVec Ideal S256x128 .f32) : FVec Ideal S64x256 .f32 := fun j =>
  (∑ s : Fin 64, (∑ d : Fin 64,
      Q (ix2 ⟨o + (j 0 : ℕ), by have := (j 0).isLt; simp at this; omega⟩ ⟨64 * ((j 1 : ℕ) / 128) + d.val, by have := (j 1).isLt; simp at this; omega⟩)
        * K (ix2 ⟨o + s.val, by omega⟩ ⟨64 * ((j 1 : ℕ) / 128) + d.val, by have := (j 1).isLt; simp at this; omega⟩))
      * DM (ix2 (j 0) ⟨64 * ((j 1 : ℕ) / 128) + s.val, by have := (j 1).isLt; simp at this; omega⟩)
      * V (ix2 ⟨o + s.val, by omega⟩ (j 1)))
    + ∑ l : Fin 128, QI (ix2 ⟨o + (j 0 : ℕ), by have := (j 0).isLt; simp at this; omega⟩ l) * st (ix2 (j 1) l)

theorem sel_same (e : Fin 256) (l : Fin 128) (x : EReal) :
    Scalar.select (IntOp.xori (IntOp.xori (IntOp.cmpi CmpIPredicate.slt (BitVec.ofNat 32 e.val) 128#32)
      (IntOp.cmpi CmpIPredicate.slt (BitVec.ofNat 32 l.val) 64#32)) 1#1) x 0
      = if ((e : ℕ) < 128 ↔ (l : ℕ) < 64) then x else 0 := by
  rw [lt128, lt64]
  by_cases h1 : e.val < 128 <;> by_cases h2 : l.val < 64 <;> simp [h1, h2, Scalar.select, IntOp.xori]

theorem pay19_eq (st) : k0_pay19 KO GC k0_pay14 (k0_pay15 V) st = upd V KO GC 0 (by omega) st := by
  funext j; idx_vars j
  pointwise [k0_pay19, k0_pay14, k0_pay15, upd]
  rw [sel_same]
theorem pay22_eq (st) : k0_pay22 KO GC k0_pay14 (k0_pay20 V) st = upd V KO GC 64 (by omega) st := by
  funext j; idx_vars j
  pointwise [k0_pay22, k0_pay14, k0_pay20, upd]
  rw [sel_same]
theorem pay27_eq (st) : k0_pay27 k0_pay14 st (k0_pay25 V KO) (k0_pay26 GC) = upd V KO GC 128 (by omega) st := by
  funext j; idx_vars j
  pointwise [k0_pay27, k0_pay14, k0_pay25, k0_pay23, k0_pay26, upd]
  rw [sel_same]
theorem pay32_eq (st) : k0_pay32 (k0_pay30 GC st) (k0_pay31 V KO k0_pay14) = upd V KO GC 192 (by omega) st := by
  funext j; idx_vars j
  pointwise [k0_pay32, k0_pay14, k0_pay30, k0_pay31, k0_pay28, upd]
  rw [sel_same]
theorem pay36_eq (st) : k0_pay36 (k0_pay35 V KO GC k0_pay14 st) = upd V KO GC 256 (by omega) st := by
  funext j; idx_vars j
  pointwise [k0_pay36, k0_pay14, k0_pay35, k0_pay33, upd]
  rw [sel_same]
theorem pay39_eq (st) : k0_pay39 V KO GC k0_pay14 st = upd V KO GC 320 (by omega) st := by
  funext j; idx_vars j
  pointwise [k0_pay39, k0_pay14, k0_pay37, upd]
  rw [sel_same]
theorem pay43_eq (st) : k0_pay43 V KO GC k0_pay14 st = upd V KO GC 384 (by omega) st := by
  funext j; idx_vars j
  pointwise [k0_pay43, k0_pay14, k0_pay41, upd]
  rw [sel_same]
theorem pay48_eq (st) : k0_pay48 V KO GC k0_pay14 st = upd V KO GC 448 (by omega) st := by
  funext j; idx_vars j
  pointwise [k0_pay48, k0_pay14, k0_pay47, upd]
  rw [sel_same]

/-- Of two masked sums the one of the head the column belongs to is left. -/
theorem pick (e : Fin 256) (f g r : Fin 64 → EReal) (hf : e.val < 128 → ∀ s, f s = r s) (hg : ¬ e.val < 128 → ∀ s, g s = r s) :
    ((∑ x, Scalar.select (IntOp.cmpi CmpIPredicate.slt (BitVec.ofNat 32 e.val) 128#32) (f x) 0)
      + ∑ x, Scalar.select (IntOp.cmpi CmpIPredicate.sge (BitVec.ofNat 32 e.val) 128#32) (g x) 0)
      = ∑ s, r s := by
  rw [lt128, ge128]
  by_cases h : e.val < 128
  · simp [h, Scalar.select, hf h]
  · simp [h, Scalar.select, hg h]

theorem pay18_eq (DM0 : FVec Ideal S1x64x128 .f32) (st) : k0_pay18 (k0_pay16 V Q K DM0) st (k0_pay17 QI) = outp V Q K QI (k0_pay12 DM0) 0 (by omega) st := by
  funext j; idx_vars j
  pointwise [k0_pay18, k0_pay16, k0_pay15, k0_pay17, k0_pay12, outp]
  simp only [sum_lo, sum_hi]
  refine congrArg₂ (· + ·) (pick j1 _ _ _ (fun h s => ?_) (fun h s => ?_)) rfl
  · have h' : j1.val / 128 = 0 := by omega
    simp [h']
  · have h' : j1.val / 128 = 1 := by omega
    simp [h']
theorem pay21_eq (st) : k0_pay21 V Q K QI DM st = outp V Q K QI DM 64 (by omega) st := by
  funext j; idx_vars j
  pointwise [k0_pay21, k0_pay20, outp]
  simp only [sum_lo, sum_hi]
  refine congrArg₂ (· + ·) (pick j1 _ _ _ (fun h s => ?_) (fun h s => ?_)) rfl
  · have h' : j1.val / 128 = 0 := by omega
    simp [h']
  · have h' : j1.val / 128 = 1 := by omega
    simp [h']
theorem pay24_eq (st) : k0_pay24 V Q K QI DM st = outp V Q K QI DM 128 (by omega) st := by
  funext j; idx_vars j
  pointwise [k0_pay24, k0_pay23, outp]
  simp only [sum_lo, sum_hi]
  refine congrArg₂ (· + ·) (pick j1 _ _ _ (fun h s => ?_) (fun h s => ?_)) rfl
  · have h' : j1.val / 128 = 0 := by omega
    simp [h']
  · have h' : j1.val / 128 = 1 := by omega
    simp [h']
theorem pay29_eq (st) : k0_pay29 V Q K QI DM st = outp V Q K QI DM 192 (by omega) st := by
  funext j; idx_vars j
  pointwise [k0_pay29, k0_pay28, outp]
  simp only [sum_lo, sum_hi]
  refine congrArg₂ (· + ·) (pick j1 _ _ _ (fun h s => ?_) (fun h s => ?_)) rfl
  · have h' : j1.val / 128 = 0 := by omega
    simp [h']
  · have h' : j1.val / 128 = 1 := by omega
    simp [h']
theorem pay34_eq (st) : k0_pay34 V Q K QI DM st = outp V Q K QI DM 256 (by omega) st := by
  funext j; idx_vars j
  pointwise [k0_pay34, k0_pay33, outp]
  simp only [sum_lo, sum_hi]
  refine congrArg₂ (· + ·) (pick j1 _ _ _ (fun h s => ?_) (fun h s => ?_)) rfl
  · have h' : j1.val / 128 = 0 := by omega
    simp [h']
  · have h' : j1.val / 128 = 1 := by omega
    simp [h']
theorem pay38_eq (st) : k0_pay38 V Q K QI DM st = outp V Q K QI DM 320 (by omega) st := by
  funext j; idx_vars j
  pointwise [k0_pay38, k0_pay37, outp]
  simp only [sum_lo, sum_hi]
  refine congrArg₂ (· + ·) (pick j1 _ _ _ (fun h s => ?_) (fun h s => ?_)) rfl
  · have h' : j1.val / 128 = 0 := by omega
    simp [h']
  · have h' : j1.val / 128 = 1 := by omega
    simp [h']
theorem pay42_eq (st) : k0_pay42 V K QI DM (k0_pay40 Q) st = outp V Q K QI DM 384 (by omega) st := by
  funext j; idx_vars j
  pointwise [k0_pay42, k0_pay40, k0_pay41, outp]
  simp only [sum_lo, sum_hi]
  refine congrArg₂ (· + ·) (pick j1 _ _ _ (fun h s => ?_) (fun h s => ?_)) rfl
  · have h' : j1.val / 128 = 0 := by omega
    simp [h']
  · have h' : j1.val / 128 = 1 := by omega
    simp [h']

/-- The rows of the last chunk, as the body computes them. -/
def last8 (q k : FVec Ideal S64x128 .bf16) (st : FVec Ideal S256x128 .f32) : FVec Ideal S64x256 .f32 :=
  addf (matmul dot_S64x128_S128x256_S64x256_1_0_0_1_n_n none
      (truncf .bf16 (mulf (matmul dot_S64x128_S128x128_S64x128_1_1_0_0_n_n none q
        (concatenate S128x128 0
          [⟨S64x128, (select (cmpi .slt (iota .tc S64x128 32 [1] iota_S64x128_d1_w32) (broadcast S64x128 64#32)) k k0_pay46 : FVec Ideal S64x128 .bf16)⟩,
           ⟨S64x128, (select (cmpi .sge (iota .tc S64x128 32 [1] iota_S64x128_d1_w32) (broadcast S64x128 64#32)) k k0_pay46 : FVec Ideal S64x128 .bf16)⟩]
          concatenates_S64x128_S64x128_S128x128_d0 : FVec Ideal S128x128 .bf16) (constant S64x128 .f32 0x00000000#32)) DM) bitsLt_bf16_f32 : FVec Ideal S64x128 .bf16)
      (concatenate S128x256 0
        [⟨S64x256, (select (cmpi .slt (iota .tc S64x256 32 [1] iota_S64x256_d1_w32) (broadcast S64x256 128#32)) (k0_pay47 V)
            (broadcast S64x256 (Scalar.ofBits .bf16 0x0000#16)) : FVec Ideal S64x256 .bf16)⟩,
         ⟨S64x256, (select (cmpi .sge (iota .tc S64x256 32 [1] iota_S64x256_d1_w32) (broadcast S64x256 128#32)) (k0_pay47 V)
            (broadcast S64x256 (Scalar.ofBits .bf16 0x0000#16)) : FVec Ideal S64x256 .bf16)⟩]
        concatenates_S64x256_S64x256_S128x256_d0 : FVec Ideal S128x256 .bf16) (constant S64x256 .f32 0x00000000#32))
    (matmul dot_S64x128_S256x128_S64x256_1_1_0_0_n_n none
      (extractStridedSlice S64x128 ![448, 0] QI slices_S512x128_o448_0_S64x128)
      (truncf .bf16 st bitsLt_bf16_f32 : FVec Ideal S256x128 .bf16) (constant S64x256 .f32 0x00000000#32))

theorem last8_eq (st) : last8 V QI DM (k0_pay44 Q) (k0_pay45 K) st = outp V Q K QI DM 448 (by omega) st := by
  funext j; idx_vars j
  pointwise [last8, k0_pay44, k0_pay45, k0_pay46, k0_pay47, outp]
  simp only [sum_lo, sum_hi]
  refine congrArg₂ (· + ·) (pick j1 _ _ _ (fun h s => ?_) (fun h s => ?_)) rfl
  · have h' : j1.val / 128 = 0 := by omega
    simp [h']
  · have h' : j1.val / 128 = 1 := by omega
    simp [h']

/-- Eight blocks of 64 rows one below the other, read at a row. -/
theorem rows8 (o : ℕ → FVec Ideal S64x256 .f32) (r : Fin 512) (e : Fin 256) :
    (concatenate S512x256 0 [⟨S64x256, o 0⟩, ⟨S64x256, o 1⟩, ⟨S64x256, o 2⟩, ⟨S64x256, o 3⟩, ⟨S64x256, o 4⟩, ⟨S64x256, o 5⟩,
        ⟨S64x256, o 6⟩, ⟨S64x256, o 7⟩]
        concatenates_S64x256_S64x256_S64x256_S64x256_S64x256_S64x256_S64x256_S64x256_S512x256_d0 : FVec Ideal S512x256 .f32) (ix2 r e)
      = o (r.val / 64) (ix2 ⟨r.val % 64, by omega⟩ e) := by
  pointwise
  have key : ∀ (k a : ℕ) (ha : a < 64), r.val = 64 * k + a →
      o (r.val / 64) (ix2 ⟨r.val % 64, by omega⟩ e) = o k (ix2 ⟨a, ha⟩ e) := by
    intro k a ha h
    have h1 : r.val / 64 = k := by omega
    have h2 : r.val % 64 = a := by omega
    simp only [h1, h2]
  split_ifs <;> exact (key _ _ _ (by omega)).symm

/-- The eight chunks' rows one below the other. -/
theorem pay49_at (o : ℕ → FVec Ideal S64x256 .f32) (st) (h7 : o 7 = outp V Q K QI DM 448 (by omega) st) (r : Fin 512) (e : Fin 256) :
    k0_pay49 V QI DM (o 0) (o 1) (o 2) (o 3) (o 4) (o 5) (o 6) (k0_pay44 Q) (k0_pay45 K)
      (iota .tc S64x128 32 [1] iota_S64x128_d1_w32) k0_pay46 st (ix2 r e)
      = o (r.val / 64) (ix2 ⟨r.val % 64, by omega⟩ e) := by
  rw [← rows8 o r e, h7, ← last8_eq]
  rfl

end

end Cert.Ret

end
-- ==== Proof.RetTile.lean ====
module

public import proofs.«01_k».proof.Proof.RetChunk

@[expose] public section

set_option maxRecDepth 16384

noncomputable section

namespace Cert.Ret

open Idealize.ShloMosaic Idealize.ShloMosaic.TcCoe Idealize.SL.Sem
open Cert.KernelIdeal Cert.KernelIdeal.Gen

/-- The word that says whether a lane lies in the first half of its head. -/
theorem laneHalf : ∀ l : Fin 128, (IntOp.cmpi CmpIPredicate.slt
              (Scalar.select
                (IntOp.andi
                  (IntOp.xori
                    (IntOp.cmpi CmpIPredicate.slt
                      (IntOp.remsi ArithUnit.vector (BitVec.ofNat 32 l.val)
                        (Scalar.select (Scalar.cmpi CmpIPredicate.eq 64#32 0#32) 1#32 64#32))
                      0#32)
                    (Scalar.cmpi CmpIPredicate.slt (Scalar.select (Scalar.cmpi CmpIPredicate.eq 64#32 0#32) 1#32 64#32)
                      0#32))
                  (IntOp.cmpi CmpIPredicate.ne
                    (IntOp.remsi ArithUnit.vector (BitVec.ofNat 32 l.val)
                      (Scalar.select (Scalar.cmpi CmpIPredicate.eq 64#32 0#32) 1#32 64#32))
                    0#32))
                (IntOp.addi
                  (IntOp.remsi ArithUnit.vector (BitVec.ofNat 32 l.val)
                    (Scalar.select (Scalar.cmpi CmpIPredicate.eq 64#32 0#32) 1#32 64#32))
                  (Scalar.select (Scalar.cmpi CmpIPredicate.eq 64#32 0#32) 1#32 64#32))
                (IntOp.remsi ArithUnit.vector (BitVec.ofNat 32 l.val)
                  (Scalar.select (Scalar.cmpi CmpIPredicate.eq 64#32 0#32) 1#32 64#32)))
              32#32) = if l.val % 64 < 32 then 1#1 else 0#1 := by decide +kernel

/-- A rotated element. -/
def rotE (x cs sn : FVec Ideal S512x128 .f32) (r : Fin 512) (l : Fin 128) : EReal :=
  x (ix2 r l) * cs (ix2 r l)
    + (if l.val % 64 < 32 then x (ix2 r ⟨(l.val + 32) % 128, by omega⟩) else x (ix2 r ⟨(l.val + 96) % 128, by omega⟩)) * sn (ix2 r l)

section
variable (x cs sn : FVec Ideal S512x128 .f32) (ze : FVec Ideal S1x64x128 .f32) (r : Fin 512) (l : Fin 128)

theorem pay4_at : k0_pay4 (F := Ideal) cs sn x (ix2 r l) = rotE x cs sn r l := by
  pointwise [k0_pay4, k0_pay2, k0_pay3]
  rw [laneHalf, rotE]
  by_cases h : l.val % 64 < 32 <;> simp [h, Scalar.select]

theorem pay5_at : k0_pay5 (F := Ideal) (k0_pay2 cs) (k0_pay3 sn) x (iota .tc S512x128 32 [1] iota_S512x128_d1_w32) 64#32 0#32 (ix2 r l)
    = rotE x cs sn r l * Ideal.ofBits .f32 0x3E000000#32 := by
  pointwise [k0_pay5, k0_pay2, k0_pay3]
  rw [laneHalf, rotE]
  by_cases h : l.val % 64 < 32 <;> simp [h, Scalar.select]

theorem pay8_at : k0_pay8 (F := Ideal) (k0_pay4 cs sn x) (ix2 r l) = rotE x cs sn r l := by
  pointwise [k0_pay8]
  exact pay4_at x cs sn r l

theorem pay9_at : k0_pay9 (F := Ideal) (k0_pay2 cs) (k0_pay3 sn) x (iota .tc S512x128 32 [1] iota_S512x128_d1_w32) 64#32 0#32 (ix2 r l)
    = rotE x cs sn r l * Ideal.ofBits .f32 0x3E000000#32 := by
  pointwise [k0_pay9]
  exact pay5_at x cs sn r l

theorem pay10_at : k0_pay10 (F := Ideal) (k0_pay4 cs sn x) ze (ix2 r l) = rotE x cs sn r l * ze (ix3 0 ⟨r.val % 64, by omega⟩ l) := by
  rw [← pay4_at x cs sn r l]
  pointwise [k0_pay10]

theorem pay11_at : k0_pay11 (F := Ideal) (k0_pay5 (k0_pay2 cs) (k0_pay3 sn) x (iota .tc S512x128 32 [1] iota_S512x128_d1_w32) 64#32 0#32) (k0_pay7 ze) (ix2 r l)
    = rotE x cs sn r l * Ideal.ofBits .f32 0x3E000000#32 * ze (ix3 0 ⟨r.val % 64, by omega⟩ l) := by
  rw [← pay5_at x cs sn r l]
  pointwise [k0_pay11, k0_pay7]

theorem pay12_at (dm : FVec Ideal S1x64x128 .f32) (i : Fin 64) : k0_pay12 (F := Ideal) dm (ix2 i l) = dm (ix3 0 i l) := by
  pointwise [k0_pay12]

theorem pay13_at (gc : FVec Ideal S1x1x128 .f32) : k0_pay13 (F := Ideal) gc (ix2 0 l) = gc (ix3 0 0 l) := by
  pointwise [k0_pay13]

theorem pay6_at (v : FVec Ideal S512x256 .f32) (e : Fin 256) : k0_pay6 (F := Ideal) v (ix2 r e) = v (ix2 r e) := by
  pointwise [k0_pay6]

theorem pay1_at (e : Fin 256) : k0_pay1 (F := Ideal) (ix2 e l) = 0 := by
  pointwise [k0_pay1]
end

/-- The mean of a head's 128 columns. -/
def meanE (x : Fin 128 → EReal) : EReal := Ideal.div (∑ f, x f) (Ideal.ofBits .f32 0x43000000#32)

/-- The head's layer norm without its gain. -/
def lnE (x : Fin 128 → EReal) (f : Fin 128) : EReal :=
  (x f - meanE x) * Ideal.rsqrt (meanE (fun f => (x f - meanE x) * (x f - meanE x)) + Ideal.ofBits .f32 0x358637BD#32)

/-- The gate. -/
def siluE (g : EReal) : EReal := g * Ideal.div 1 (1 + Ideal.exp (-g))

theorem pay52_at (a b o0 o1 o2 o3 o4 o5 o6 q k i z st nm g) (r : Fin 512) (e : Fin 256) (dm : FVec Ideal S64x128 .f32) :
    k0_pay52 (F := Ideal) (k0_pay49 a b dm o0 o1 o2 o3 o4 o5 o6 q k i z st) (k0_pay50 a b dm o0 o1 o2 o3 o4 o5 o6 q k i z st)
      (k0_pay51 a b dm o0 o1 o2 o3 o4 o5 o6 q k i z st) nm g (ix2 r e)
      = lnE (fun f => k0_pay49 a b dm o0 o1 o2 o3 o4 o5 o6 q k i z st (ix2 r ⟨128 * (e.val / 128) + f.val, by omega⟩)) ⟨e.val % 128, by omega⟩
        * nm (ix2 0 e) * siluE (g (ix2 r e)) := by
  pointwise [k0_pay52, k0_pay51, k0_pay50, lnE, siluE, meanE]
  rw [zero_sub]
  by_cases h : e.val < 128
  · have h1 : e.val / 128 = 0 := by omega
    have h2 : e.val % 128 = e.val := by omega
    rw [dif_pos h]
    simp [h1, h2]
  · have h1 : e.val / 128 = 1 := by omega
    have h2 : e.val % 128 = e.val - 128 := by omega
    rw [dif_neg h]
    simp [h1, h2]

end Cert.Ret

end
-- ==== Proof.RetSpec.lean ====
module

public import proofs.«01_k».proof.Proof.RetTile

/-! The retention layer as plain functions of the projected inputs: the rotated queries and keys, the decays, the state
    before each chunk of 64 tokens, and the layer's output before the head normalization. -/

@[expose] public section

set_option maxRecDepth 16384

noncomputable section

namespace Cert.Ret

open Idealize.ShloMosaic
open Cert.KernelIdeal (S32768x3072 S512)

/-- The float of a count. -/
def fl (n : ℕ) : EReal := FloatOps.sitofp (F := Ideal) FTy.f32 (BitVec.ofNat 32 n)

/-- The rotary angle of position `p` at pair `j`. -/
def ang (p j : ℕ) : EReal :=
  fl p * Ideal.pow (Ideal.ofBits FTy.f32 1176256512#32) (Ideal.div (-fl j) (Ideal.ofBits FTy.f32 1107296256#32))

/-- The logarithm of head `h`'s decay. -/
def lg (h : ℕ) : EReal :=
  Ideal.log1p (-Ideal.exp (Ideal.ofBits FTy.f32 1060205080#32 * (Ideal.ofBits FTy.f32 3231711232#32 - fl h)))

/-- The decay from token `s` of a chunk to the chunk's end. -/
def zet (h s : ℕ) : EReal := Ideal.exp ((Ideal.ofBits FTy.f32 1115422720#32 - fl s) * lg h)

/-- The decay from a chunk's start through token `s`. -/
def xit (h s : ℕ) : EReal := Ideal.exp ((fl s + 1) * lg h)

/-- The decay over a whole chunk. -/
def gch (h : ℕ) : EReal := Ideal.exp (Ideal.ofBits FTy.f32 1115684864#32 * lg h)

/-- The decay from token `j` to token `i` of a chunk, 0 when `j` comes later. -/
def dmk (h i j : ℕ) : EReal := if 0 ≤ fl i - fl j then Ideal.exp (max (fl i - fl j) 0 * lg h) else 0

/-- The row of position `p` of sequence `b`. -/
def row (b p : ℕ) : Fin 32768 := ⟨(b * 16384 + p) % 32768, Nat.mod_lt _ (by decide)⟩

/-- Column `k` of the projected inputs. -/
def col (k : ℕ) : Fin 3072 := ⟨k % 3072, Nat.mod_lt _ (by decide)⟩

variable (X : FVec Ideal S32768x3072 .f32)

/-- One entry of the projected inputs. -/
def xat (b p k : ℕ) : EReal := X (ix2 (row b p) (col k))

/-- Dimension `d` of head `h` of the group of columns from `o`, rotated by the position. -/
def rot (o b h p d : ℕ) : EReal :=
  if d < 32 then xat X b p (o + 64 * h + d) * Ideal.cos (ang p d) - xat X b p (o + 64 * h + (d + 32)) * Ideal.sin (ang p d)
  else xat X b p (o + 64 * h + (d - 32)) * Ideal.sin (ang p (d - 32)) + xat X b p (o + 64 * h + d) * Ideal.cos (ang p (d - 32))

/-- The queries. -/
def qs (b h p d : ℕ) : EReal := rot X 1536 b h p d

/-- The keys, scaled. -/
def ks (b h p d : ℕ) : EReal := rot X 1792 b h p d * Ideal.ofBits .f32 0x3E000000#32

/-- The values. -/
def vs (b h p e : ℕ) : EReal := xat X b p (2048 + 128 * h + e)

/-- What chunk `n` adds to the state. -/
def ustep (b h d e n : ℕ) : EReal := ∑ s : Fin 64, ks X b h (64 * n + s) d * zet h s * vs X b h (64 * n + s) e

/-- The state before chunk `n`. -/
def state (b h d e : ℕ) : ℕ → EReal
  | 0 => 0
  | n + 1 => gch h * state b h d e n + ustep X b h d e n

/-- The retention's output at position `p`, value dimension `e`. -/
def oret (b h p e : ℕ) : EReal :=
  ∑ j : Fin 64, (∑ d : Fin 64, qs X b h p d * ks X b h (64 * (p / 64) + j) d) * dmk h (p % 64) j * vs X b h (64 * (p / 64) + j) e
  + ∑ d : Fin 64, qs X b h p d * xit h (p % 64) * state X b h d e (p / 64)

/-- The layer's result: the output normalized over each head, scaled, and gated. -/
def res (nm : FVec Ideal S512 .f32) (P f : ℕ) : EReal :=
  lnE (fun e => oret X (P / 16384) (f / 128) (P % 16384) e.val) ⟨f % 128, Nat.mod_lt _ (by decide)⟩
    * nm (ix1 ⟨f % 512, Nat.mod_lt _ (by decide)⟩) * siluE (xat X (P / 16384) (P % 16384) (2560 + f))

end Cert.Ret

end
-- ==== Proof.RetTab.lean ====
module

public import proofs.«01_k».proof.Proof.RetSpec

@[expose] public section

set_option maxRecDepth 16384

noncomputable section

namespace Cert.Ret

open Idealize.ShloMosaic Idealize.ShloMosaic.TcCoe Idealize.SL.Sem
open Cert.KernelIdeal Cert.KernelIdeal.Gen

variable (m : (ℓ : Loc nD τ sig) → Buf (Elt Ideal) ℓ)

/-- The table of cosines. -/
theorem tCos (c : Dev nD) (a : Fin 16384) (b : Fin 128) : (V m c main_v16 : FVec Ideal S16384x128 .f32) (ix2 a b) = Ideal.cos (ang a (b % 32)) := by
  unfold V
  simp only [hostOps0, hostOps0_1, hostOps0_2, List.flatten_cons, List.flatten_nil, List.append_nil, List.cons_append, List.nil_append]
  entry_read
  pointwise
  rfl

/-- The table of signed sines. -/
theorem tSin (c : Dev nD) (a : Fin 16384) (b : Fin 128) : (V m c main_v21 : FVec Ideal S16384x128 .f32) (ix2 a b)
    = if b.val % 64 < 32 then -Ideal.sin (ang a (b % 64)) else Ideal.sin (ang a (b % 64 - 32)) := by
  unfold V
  simp only [hostOps0, hostOps0_1, hostOps0_2, List.flatten_cons, List.flatten_nil, List.append_nil, List.cons_append, List.nil_append]
  entry_read
  pointwise
  rfl

set_option maxHeartbeats 4000000 in
/-- The table of decays between the tokens of a chunk, two heads side by side. -/
theorem tMask (c : Dev nD) (h : Fin 2) (a : Fin 64) (b : Fin 128) : (V m c main_v72 : FVec Ideal S2x64x128 .f32) (ix3 h a b)
    = dmk (2 * h + b / 64) a (b % 64) := by
  unfold V
  simp only [hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise
  split
  next hb =>
    rw [show 2 * h.val + b.val / 64 = h.val * 2 by omega, show b.val % 64 = b.val by omega]
    rfl
  next hb =>
    rw [show 2 * h.val + b.val / 64 = h.val * 2 + 1 by omega, show b.val % 64 = b.val - 64 by omega]
    rfl

/-- The table of decays to the chunk's end. -/
theorem tZeta (c : Dev nD) (h : Fin 2) (a : Fin 64) (b : Fin 128) : (V m c main_v76 : FVec Ideal S2x64x128 .f32) (ix3 h a b) = zet (2 * h + b / 64) a := by
  unfold V
  simp only [hostOps0, hostOps0_1, hostOps0_2, List.flatten_cons, List.flatten_nil, List.append_nil, List.cons_append, List.nil_append]
  entry_read
  pointwise
  rw [mul_comm 2]
  rfl

/-- The table of decays from the chunk's start. -/
theorem tXi (c : Dev nD) (h : Fin 2) (a : Fin 64) (b : Fin 128) : (V m c main_v80 : FVec Ideal S2x64x128 .f32) (ix3 h a b) = xit (2 * h + b / 64) a := by
  unfold V
  simp only [hostOps0, hostOps0_1, hostOps0_2, List.flatten_cons, List.flatten_nil, List.append_nil, List.cons_append, List.nil_append]
  entry_read
  pointwise
  rw [mul_comm 2]
  rfl

/-- The table of decays over a chunk. -/
theorem tChunk (c : Dev nD) (h : Fin 2) (a : Fin 1) (b : Fin 128) : (V m c main_v84 : FVec Ideal S2x1x128 .f32) (ix3 h a b) = gch (2 * h + b / 64) := by
  unfold V
  simp only [hostOps0, hostOps0_1, hostOps0_2, List.flatten_cons, List.flatten_nil, List.append_nil, List.cons_append, List.nil_append]
  entry_read
  pointwise
  rw [mul_comm 2]
  rfl

/-- The norm's scale as a row. -/
theorem tNorm (c : Dev nD) (a : Fin 1) (b : Fin 512) : (V m c main_v85 : FVec Ideal S1x512 .f32) (ix2 a b) = (m ((c : Thread nD τ).loc main_arg1) : FVec Ideal S512 .f32) (ix1 b) := by
  unfold V
  simp only [hostOps0, hostOps0_1, hostOps0_2, List.flatten_cons, List.flatten_nil, List.append_nil, List.cons_append, List.nil_append]
  entry_read
  pointwise

end Cert.Ret

end
-- ==== Proof.RetWin.lean ====
module

public import proofs.«01_k».proof.Proof.RetTab

@[expose] public section

set_option maxRecDepth 16384

noncomputable section

namespace Cert.Ret

open Idealize.ShloMosaic Idealize.ShloMosaic.TcCoe Idealize.SL.Sem
open Cert.KernelIdeal Cert.KernelIdeal.Gen

variable (m : (ℓ : Loc nD τ sig) → Buf (Elt Ideal) ℓ)

/-- Which block each window holds at a grid point. -/

theorem idx : ∀ t : Fin cfg0.N, win0_0.index t = ![t.val / 64 * 32 + t.val % 32, 12 + t.val / 32 % 2]
    ∧ win0_1.index t = ![t.val / 64 * 32 + t.val % 32, 14 + t.val / 32 % 2]
    ∧ win0_2.index t = ![t.val / 64 * 32 + t.val % 32, 8 + t.val / 32 % 2]
    ∧ win0_3.index t = ![t.val / 64 * 32 + t.val % 32, 10 + t.val / 32 % 2]
    ∧ win0_4.index t = ![t.val % 32, 0] ∧ win0_5.index t = ![t.val % 32, 0]
    ∧ win0_6.index t = ![t.val / 32 % 2, 0, 0] ∧ win0_7.index t = ![t.val / 32 % 2, 0, 0]
    ∧ win0_8.index t = ![t.val / 32 % 2, 0, 0] ∧ win0_9.index t = ![t.val / 32 % 2, 0, 0]
    ∧ win0_10.index t = ![0, t.val / 32 % 2]
    ∧ win0_11.index t = ![t.val / 64 * 32 + t.val % 32, t.val / 32 % 2] :=
  (by decide +kernel : ∀ t : Fin grid0.N, _)

theorem ltN (t : Fin cfg0.N) : t.val < 128 := t.isLt

/-- The projected inputs. -/
abbrev X0 (c : Dev nD) : FVec Ideal S32768x3072 .f32 := m ((c : Thread nD τ).loc main_arg0)

/-- The query block. -/
theorem blk0 (c : Dev nD) (t : Fin cfg0.N) (r : Fin 512) (l : Fin 128) : (iblk m c 0 t : FVec Ideal S512x128 .f32) (ix2 r l)
    = xat (X0 m c) (t.val / 64) (512 * (t.val % 32) + r) (1536 + 128 * (t.val / 32 % 2) + l) := by
  have ht := ltN t
  rw [xat, row, col]
  blk_ext [iblk, V, idx t]

/-- The key block. -/
theorem blk1 (c : Dev nD) (t : Fin cfg0.N) (r : Fin 512) (l : Fin 128) : (iblk m c 1 t : FVec Ideal S512x128 .f32) (ix2 r l)
    = xat (X0 m c) (t.val / 64) (512 * (t.val % 32) + r) (1792 + 128 * (t.val / 32 % 2) + l) := by
  have ht := ltN t
  rw [xat, row, col]
  blk_ext [iblk, V, idx t]

/-- The value block. -/
theorem blk2 (c : Dev nD) (t : Fin cfg0.N) (r : Fin 512) (l : Fin 256) : (iblk m c 2 t : FVec Ideal S512x256 .f32) (ix2 r l)
    = xat (X0 m c) (t.val / 64) (512 * (t.val % 32) + r) (2048 + 256 * (t.val / 32 % 2) + l) := by
  have ht := ltN t
  rw [xat, row, col]
  blk_ext [iblk, V, idx t]

/-- The gate block. -/
theorem blk3 (c : Dev nD) (t : Fin cfg0.N) (r : Fin 512) (l : Fin 256) : (iblk m c 3 t : FVec Ideal S512x256 .f32) (ix2 r l)
    = xat (X0 m c) (t.val / 64) (512 * (t.val % 32) + r) (2560 + 256 * (t.val / 32 % 2) + l) := by
  have ht := ltN t
  rw [xat, row, col]
  blk_ext [iblk, V, idx t]

theorem blk4 (c : Dev nD) (t : Fin cfg0.N) (r : Fin 512) (l : Fin 128) : (iblk m c 4 t : FVec Ideal S512x128 .f32) (ix2 r l)
    = Ideal.cos (ang (512 * (t.val % 32) + r) (l % 32)) := by
  have ht := ltN t
  refine Eq.trans ?_ (tCos m c ⟨512 * (t.val % 32) + r, by omega⟩ l)
  blk_ext [iblk, idx t]

theorem blk5 (c : Dev nD) (t : Fin cfg0.N) (r : Fin 512) (l : Fin 128) : (iblk m c 5 t : FVec Ideal S512x128 .f32) (ix2 r l)
    = if l.val % 64 < 32 then -Ideal.sin (ang (512 * (t.val % 32) + r) (l % 64)) else Ideal.sin (ang (512 * (t.val % 32) + r) (l % 64 - 32)) := by
  have ht := ltN t
  refine Eq.trans ?_ (tSin m c ⟨512 * (t.val % 32) + r, by omega⟩ l)
  blk_ext [iblk, idx t]

theorem blk6 (c : Dev nD) (t : Fin cfg0.N) (a : Fin 64) (l : Fin 128) : (iblk m c 6 t : FVec Ideal S1x64x128 .f32) (ix3 0 a l)
    = dmk (2 * (t.val / 32 % 2) + l / 64) a (l % 64) := by
  have ht := ltN t
  refine Eq.trans ?_ (tMask m c ⟨t.val / 32 % 2, by omega⟩ a l)
  blk_ext [iblk, idx t]

theorem blk7 (c : Dev nD) (t : Fin cfg0.N) (a : Fin 64) (l : Fin 128) : (iblk m c 7 t : FVec Ideal S1x64x128 .f32) (ix3 0 a l)
    = zet (2 * (t.val / 32 % 2) + l / 64) a := by
  have ht := ltN t
  refine Eq.trans ?_ (tZeta m c ⟨t.val / 32 % 2, by omega⟩ a l)
  blk_ext [iblk, idx t]

theorem blk8 (c : Dev nD) (t : Fin cfg0.N) (a : Fin 64) (l : Fin 128) : (iblk m c 8 t : FVec Ideal S1x64x128 .f32) (ix3 0 a l)
    = xit (2 * (t.val / 32 % 2) + l / 64) a := by
  have ht := ltN t
  refine Eq.trans ?_ (tXi m c ⟨t.val / 32 % 2, by omega⟩ a l)
  blk_ext [iblk, idx t]

theorem blk9 (c : Dev nD) (t : Fin cfg0.N) (a : Fin 1) (l : Fin 128) : (iblk m c 9 t : FVec Ideal S1x1x128 .f32) (ix3 0 a l)
    = gch (2 * (t.val / 32 % 2) + l / 64) := by
  have ht := ltN t
  refine Eq.trans ?_ (tChunk m c ⟨t.val / 32 % 2, by omega⟩ a l)
  blk_ext [iblk, idx t]

theorem blk10 (c : Dev nD) (t : Fin cfg0.N) (e : Fin 256) : (iblk m c 10 t : FVec Ideal S1x256 .f32) (ix2 0 e)
    = (m ((c : Thread nD τ).loc main_arg1) : FVec Ideal S512 .f32) (ix1 ⟨256 * (t.val / 32 % 2) + e, by omega⟩) := by
  have ht := ltN t
  refine Eq.trans ?_ (tNorm m c 0 ⟨256 * (t.val / 32 % 2) + e, by omega⟩)
  blk_ext [iblk, idx t]

end Cert.Ret

end
-- ==== Proof.RetLane.lean ====
module

public import proofs.«01_k».proof.Proof.RetWin

@[expose] public section

set_option maxRecDepth 16384

noncomputable section

namespace Cert.Ret

open Idealize.ShloMosaic Idealize.ShloMosaic.TcCoe Idealize.SL.Sem
open Cert.KernelIdeal Cert.KernelIdeal.Gen

variable (m : (ℓ : Loc nD τ sig) → Buf (Elt Ideal) ℓ)

/-- The rotation with the lanes of two heads side by side is each head's rotation. -/
theorem rotE_eq (X : FVec Ideal S32768x3072 .f32) (x cs sn : FVec Ideal S512x128 .f32) (o b q p : ℕ) (r : Fin 512) (l : Fin 128)
    (hx : ∀ l : Fin 128, x (ix2 r l) = xat X b p (o + 128 * q + l)) (hc : cs (ix2 r l) = Ideal.cos (ang p (l % 32)))
    (hs : sn (ix2 r l) = if l.val % 64 < 32 then -Ideal.sin (ang p (l % 64)) else Ideal.sin (ang p (l % 64 - 32))) :
    rotE x cs sn r l = rot X o b (2 * q + l / 64) p (l % 64) := by
  rw [rotE, rot, hc, hs, hx, hx, hx]
  have hl := l.isLt
  by_cases h : l.val % 64 < 32
  · simp only [h, if_true]
    rw [show o + 64 * (2 * q + l.val / 64) + l.val % 64 = o + 128 * q + l.val by omega,
      show o + 64 * (2 * q + l.val / 64) + (l.val % 64 + 32) = o + 128 * q + (l.val + 32) % 128 by omega,
      show l.val % 32 = l.val % 64 by omega, mul_neg, ← sub_eq_add_neg]
  · simp only [h, if_false]
    rw [show o + 64 * (2 * q + l.val / 64) + l.val % 64 = o + 128 * q + l.val by omega,
      show o + 64 * (2 * q + l.val / 64) + (l.val % 64 - 32) = o + 128 * q + (l.val + 96) % 128 by omega,
      show l.val % 32 = l.val % 64 - 32 by omega, add_comm]

section
variable (c : Dev nD) (t : Fin cfg0.N)

/-- The block's rotated queries, keys and values, and the products with the decays. -/
abbrev tQ : FVec Ideal S512x128 .bf16 := k0_pay8 (F := Ideal) (k0_pay4 (iblk m c 4 t) (iblk m c 5 t) (iblk m c 0 t))
abbrev tK5 : FVec Ideal S512x128 .f32 := k0_pay5 (F := Ideal) (k0_pay2 (iblk m c 4 t)) (k0_pay3 (iblk m c 5 t)) (iblk m c 1 t) (iota .tc S512x128 32 [1] iota_S512x128_d1_w32) 64#32 0#32
abbrev tK : FVec Ideal S512x128 .bf16 := k0_pay9 (F := Ideal) (k0_pay2 (iblk m c 4 t)) (k0_pay3 (iblk m c 5 t)) (iblk m c 1 t) (iota .tc S512x128 32 [1] iota_S512x128_d1_w32) 64#32 0#32
abbrev tQI : FVec Ideal S512x128 .bf16 := k0_pay10 (F := Ideal) (k0_pay4 (iblk m c 4 t) (iblk m c 5 t) (iblk m c 0 t)) (iblk m c 8 t)
abbrev tKO : FVec Ideal S512x128 .bf16 := k0_pay11 (F := Ideal) (tK5 m c t) (k0_pay7 (iblk m c 7 t))
abbrev tV : FVec Ideal S512x256 .bf16 := k0_pay6 (F := Ideal) (iblk m c 2 t)
abbrev tDM : FVec Ideal S64x128 .f32 := k0_pay12 (F := Ideal) (iblk m c 6 t)
abbrev tGC : FVec Ideal S1x128 .f32 := k0_pay13 (F := Ideal) (iblk m c 9 t)

variable (r : Fin 512) (l : Fin 128)

theorem tRq : rotE (iblk m c 0 t) (iblk m c 4 t) (iblk m c 5 t) r l
    = qs (X0 m c) (t.val / 64) (2 * (t.val / 32 % 2) + l / 64) (512 * (t.val % 32) + r) (l % 64) :=
  rotE_eq _ _ _ _ 1536 _ _ _ r l (fun l => blk0 m c t r l) (blk4 m c t r l) (blk5 m c t r l)

theorem tRk : rotE (iblk m c 1 t) (iblk m c 4 t) (iblk m c 5 t) r l
    = rot (X0 m c) 1792 (t.val / 64) (2 * (t.val / 32 % 2) + l / 64) (512 * (t.val % 32) + r) (l % 64) :=
  rotE_eq _ _ _ _ 1792 _ _ _ r l (fun l => blk1 m c t r l) (blk4 m c t r l) (blk5 m c t r l)

theorem tQ_at : tQ m c t (ix2 r l) = qs (X0 m c) (t.val / 64) (2 * (t.val / 32 % 2) + l / 64) (512 * (t.val % 32) + r) (l % 64) :=
  (pay8_at _ _ _ r l).trans (tRq m c t r l)

theorem tK_at : tK m c t (ix2 r l) = ks (X0 m c) (t.val / 64) (2 * (t.val / 32 % 2) + l / 64) (512 * (t.val % 32) + r) (l % 64) :=
  (pay9_at _ _ _ r l).trans (by rw [tRk, ks])

theorem tQI_at : tQI m c t (ix2 r l) = qs (X0 m c) (t.val / 64) (2 * (t.val / 32 % 2) + l / 64) (512 * (t.val % 32) + r) (l % 64)
    * xit (2 * (t.val / 32 % 2) + l / 64) (r % 64) :=
  (pay10_at _ _ _ _ r l).trans (by rw [tRq, blk8])

theorem tKO_at : tKO m c t (ix2 r l) = ks (X0 m c) (t.val / 64) (2 * (t.val / 32 % 2) + l / 64) (512 * (t.val % 32) + r) (l % 64)
    * zet (2 * (t.val / 32 % 2) + l / 64) (r % 64) :=
  (pay11_at _ _ _ _ r l).trans (by rw [tRk, blk7, ks])

theorem tV_at (e : Fin 256) : tV m c t (ix2 r e) = vs (X0 m c) (t.val / 64) (2 * (t.val / 32 % 2) + e / 128) (512 * (t.val % 32) + r) (e % 128) := by
  have he := e.isLt
  rw [vs, show 2048 + 128 * (2 * (t.val / 32 % 2) + e.val / 128) + e.val % 128 = 2048 + 256 * (t.val / 32 % 2) + e.val by omega]
  exact (pay6_at r _ e).trans (blk2 m c t r e)

theorem tDM_at (i : Fin 64) : tDM m c t (ix2 i l) = dmk (2 * (t.val / 32 % 2) + l / 64) i (l % 64) :=
  (pay12_at l _ i).trans (blk6 m c t i l)

theorem tGC_at : tGC m c t (ix2 0 l) = gch (2 * (t.val / 32 % 2) + l / 64) :=
  (pay13_at l _).trans (blk9 m c t 0 l)
end

end Cert.Ret

end
-- ==== Proof.RetStep.lean ====
module

public import proofs.«01_k».proof.Proof.RetLane
public import proofs.«01_k».proof.Proof.RetChunk

@[expose] public section

set_option maxRecDepth 16384

noncomputable section

namespace Cert.Ret

open Idealize.ShloMosaic Idealize.ShloMosaic.TcCoe Idealize.SL.Sem
open Cert.KernelIdeal Cert.KernelIdeal.Gen

variable (m : (ℓ : Loc nD τ sig) → Buf (Elt Ideal) ℓ)

section
variable (c : Dev nD) (t : Fin cfg0.N)

/-- The scratch before chunk `n`: two heads' states on the diagonal, 0 elsewhere. -/
def inv (n : ℕ) : FVec Ideal S256x128 .f32 := fun j =>
  if ((j 0 : ℕ) < 128 ↔ (j 1 : ℕ) < 64) then
    state (X0 m c) (t.val / 64) (2 * (t.val / 32 % 2) + (j 0 : ℕ) / 128) ((j 1 : ℕ) % 64) ((j 0 : ℕ) % 128) n else 0

theorem inv_at (n : ℕ) (e : Fin 256) (l : Fin 128) : inv m c t n (ix2 e l) = if (e.val < 128 ↔ l.val < 64) then
    state (X0 m c) (t.val / 64) (2 * (t.val / 32 % 2) + e / 128) (l % 64) (e % 128) n else 0 := rfl

theorem upd_at (V : FVec Ideal S512x256 .bf16) (KO : FVec Ideal S512x128 .bf16) (GC : FVec Ideal S1x128 .f32) (o : ℕ) (ho : o ≤ 448)
    (st : FVec Ideal S256x128 .f32) (e : Fin 256) (l : Fin 128) (a g : EReal) (p q : Fin 64 → EReal) (ha : st (ix2 e l) = a) (hg : GC (ix2 0 l) = g)
    (hp : ∀ s : Fin 64, V (ix2 ⟨o + s.val, by omega⟩ e) = p s) (hq : ∀ s : Fin 64, KO (ix2 ⟨o + s.val, by omega⟩ l) = q s) :
    upd V KO GC o ho st (ix2 e l) = a * g + if (e.val < 128 ↔ l.val < 64) then ∑ s, p s * q s else 0 := by
  subst ha hg
  obtain rfl : p = _ := funext fun s => (hp s).symm
  obtain rfl : q = _ := funext fun s => (hq s).symm
  rfl

/-- One chunk takes the states one step further. -/
theorem upd_inv (k : ℕ) (hk : k ≤ 7) (o : ℕ) (ho : o ≤ 448) (hok : o = 64 * k) :
    upd (tV m c t) (tKO m c t) (tGC m c t) o ho (inv m c t (8 * (t.val % 32) + k)) = inv m c t (8 * (t.val % 32) + k + 1) := by
  subst hok
  funext j; idx_vars j
  have h0 := j0.isLt
  have h1 := j1.isLt
  rw [upd_at _ _ _ _ ho _ j0 j1 _ _ _ _ (inv_at m c t _ j0 j1) (tGC_at m c t j1) (fun s => tV_at m c t _ j0) (fun s => tKO_at m c t _ j1), inv_at]
  by_cases h : (j0.val < 128 ↔ j1.val < 64)
  · have hh : j1.val / 64 = j0.val / 128 := by omega
    rw [if_pos h, if_pos h, if_pos h, state, ustep, hh, mul_comm]
    refine congrArg₂ (· + ·) rfl (Finset.sum_congr rfl fun s _ => ?_)
    simp only []
    rw [show 512 * (t.val % 32) + (64 * k + s.val) = 64 * (8 * (t.val % 32) + k) + s.val by omega,
      show (64 * k + s.val) % 64 = s.val by omega, mul_comm]
  · rw [if_neg h, if_neg h, if_neg h, zero_mul, add_zero]

/-- A sum over the lanes of two heads where only one head's are not 0. -/
theorem sum_head (a : ℕ) (ha : a < 2) (f : Fin 128 → EReal) (g : Fin 64 → EReal) (h0 : ∀ l : Fin 128, l.val / 64 ≠ a → f l = 0)
    (h1 : ∀ d : Fin 64, f ⟨64 * a + d.val, by omega⟩ = g d) : ∑ l, f l = ∑ d, g d := by
  rw [Fin.sum_univ_two_halves 64 64 rfl]
  obtain rfl | rfl : a = 0 ∨ a = 1 := by omega
  · rw [Finset.sum_eq_zero (s := Finset.univ) (f := fun d : Fin 64 => f ⟨64 + d.val, _⟩) fun d _ => h0 _ (by show (64 + d.val) / 64 ≠ 0; omega), add_zero]
    exact Finset.sum_congr rfl fun d _ => (congrArg f (Fin.ext (by show d.val = 64 * 0 + d.val; omega))).trans (h1 d)
  · rw [Finset.sum_eq_zero (s := Finset.univ) (f := fun d : Fin 64 => f ⟨d.val, _⟩) fun d _ => h0 _ (by show d.val / 64 ≠ 1; omega), zero_add]
    exact Finset.sum_congr rfl fun d _ => h1 d

/-- One chunk's rows are the retention's. -/
theorem outp_inv (k : ℕ) (hk : k ≤ 7) (o : ℕ) (ho : o ≤ 448) (hok : o = 64 * k) (r : Fin 64) (e : Fin 256) :
    outp (tV m c t) (tQ m c t) (tK m c t) (tQI m c t) (tDM m c t) o ho (inv m c t (8 * (t.val % 32) + k)) (ix2 r e)
      = oret (X0 m c) (t.val / 64) (2 * (t.val / 32 % 2) + e / 128) (512 * (t.val % 32) + (64 * k + r)) (e % 128) := by
  subst hok
  have he := e.isLt
  rw [outp, oret]
  rw [show (512 * (t.val % 32) + (64 * k + r.val)) / 64 = 8 * (t.val % 32) + k by omega,
    show (512 * (t.val % 32) + (64 * k + r.val)) % 64 = r.val by omega]
  refine congrArg₂ (· + ·) (Finset.sum_congr rfl fun s _ => ?_) ?_
  · refine congrArg₂ (· * ·) (congrArg₂ (· * ·) (Finset.sum_congr rfl fun d _ => ?_) ?_) ?_
    · refine (congrArg₂ (· * ·) (tQ_at m c t ⟨64 * k + r.val, by omega⟩ ⟨64 * (e.val / 128) + d.val, by omega⟩)
        (tK_at m c t ⟨64 * k + s.val, by omega⟩ ⟨64 * (e.val / 128) + d.val, by omega⟩)).trans ?_
      simp only []
      rw [show (64 * (e.val / 128) + d.val) / 64 = e.val / 128 by omega, show (64 * (e.val / 128) + d.val) % 64 = d.val by omega,
        show 512 * (t.val % 32) + (64 * k + s.val) = 64 * (8 * (t.val % 32) + k) + s.val by omega]
    · refine (tDM_at m c t ⟨64 * (e.val / 128) + s.val, by omega⟩ r).trans ?_
      simp only []
      rw [show (64 * (e.val / 128) + s.val) / 64 = e.val / 128 by omega, show (64 * (e.val / 128) + s.val) % 64 = s.val by omega]
    · refine (tV_at m c t ⟨64 * k + s.val, by omega⟩ e).trans ?_
      simp only []
      rw [show 512 * (t.val % 32) + (64 * k + s.val) = 64 * (8 * (t.val % 32) + k) + s.val by omega]
  · refine sum_head (e.val / 128) (by omega) _ _ (fun l hl => ?_) (fun d => ?_)
    · have hl' := l.isLt
      have : inv m c t (8 * (t.val % 32) + k) (ix2 e l) = 0 := by
        rw [inv]
        exact if_neg (by show ¬ (e.val < 128 ↔ l.val < 64); omega)
      exact (congrArg₂ (· * ·) rfl this).trans (mul_zero _)
    · have hd := d.isLt
      have : inv m c t (8 * (t.val % 32) + k) (ix2 e ⟨64 * (e.val / 128) + d.val, by omega⟩)
          = state (X0 m c) (t.val / 64) (2 * (t.val / 32 % 2) + e.val / 128) d (e % 128) (8 * (t.val % 32) + k) := by
        rw [inv]
        refine (if_pos (by show (e.val < 128 ↔ 64 * (e.val / 128) + d.val < 64); omega)).trans ?_
        show state _ _ _ ((64 * (e.val / 128) + d.val) % 64) _ _ = _
        rw [show (64 * (e.val / 128) + d.val) % 64 = d.val by omega]
        rfl
      refine (congrArg₂ (· * ·) (tQI_at m c t ⟨64 * k + r.val, by omega⟩ ⟨64 * (e.val / 128) + d.val, by omega⟩) this).trans ?_
      simp only []
      rw [show (64 * (e.val / 128) + d.val) / 64 = e.val / 128 by omega, show (64 * (e.val / 128) + d.val) % 64 = d.val by omega,
        show (64 * k + r.val) % 64 = r.val by omega]
end

end Cert.Ret

end
-- ==== Proof.RetFold.lean ====
module

public import proofs.«01_k».proof.Proof.RetStep
public import Idealize.ShloMosaic.Lib.Pipeline.ReadBack

@[expose] public section

set_option maxRecDepth 16384

noncomputable section

namespace Cert.Ret

open Idealize.ShloMosaic Idealize.ShloMosaic.TcCoe Idealize.SL.Sem
open Cert.KernelIdeal Cert.KernelIdeal.Gen

variable (m : (ℓ : Loc nD τ sig) → Buf (Elt Ideal) ℓ)

section
variable (c : Dev nD) (t : Fin cfg0.N)

variable (st : FVec Ideal S256x128 .f32)

/-- The scratch after each of a tile's chunks, from what the tile found there. -/
abbrev s1 : FVec Ideal S256x128 .f32 := k0_pay19 (tKO m c t) (tGC m c t) k0_pay14 (k0_pay15 (tV m c t)) st
abbrev s2 : FVec Ideal S256x128 .f32 := k0_pay22 (tKO m c t) (tGC m c t) k0_pay14 (k0_pay20 (tV m c t)) (s1 m c t st)
abbrev s3 : FVec Ideal S256x128 .f32 := k0_pay27 k0_pay14 (s2 m c t st) (k0_pay25 (tV m c t) (tKO m c t)) (k0_pay26 (tGC m c t))
abbrev s4 : FVec Ideal S256x128 .f32 := k0_pay32 (k0_pay30 (tGC m c t) (s3 m c t st)) (k0_pay31 (tV m c t) (tKO m c t) k0_pay14)
abbrev s5 : FVec Ideal S256x128 .f32 := k0_pay36 (k0_pay35 (tV m c t) (tKO m c t) (tGC m c t) k0_pay14 (s4 m c t st))
abbrev s6 : FVec Ideal S256x128 .f32 := k0_pay39 (tV m c t) (tKO m c t) (tGC m c t) k0_pay14 (s5 m c t st)
abbrev s7 : FVec Ideal S256x128 .f32 := k0_pay43 (tV m c t) (tKO m c t) (tGC m c t) k0_pay14 (s6 m c t st)

/-- What a tile leaves in the scratch. -/
def tileS : FVec Ideal S256x128 .f32 := k0_pay48 (tV m c t) (tKO m c t) (tGC m c t) k0_pay14 (s7 m c t st)

theorem s1_inv : s1 m c t (inv m c t (8 * (t.val % 32))) = inv m c t (8 * (t.val % 32) + 1) :=
  (pay19_eq _ _ _ _).trans (upd_inv m c t 0 (by omega) 0 (by omega) rfl)
theorem s2_inv : s2 m c t (inv m c t (8 * (t.val % 32))) = inv m c t (8 * (t.val % 32) + 2) := by
  rw [s2, s1_inv, pay22_eq, upd_inv m c t 1 (by omega) 64 _ rfl]
theorem s3_inv : s3 m c t (inv m c t (8 * (t.val % 32))) = inv m c t (8 * (t.val % 32) + 3) := by
  rw [s3, s2_inv, pay27_eq, upd_inv m c t 2 (by omega) 128 _ rfl]
theorem s4_inv : s4 m c t (inv m c t (8 * (t.val % 32))) = inv m c t (8 * (t.val % 32) + 4) := by
  rw [s4, s3_inv, pay32_eq, upd_inv m c t 3 (by omega) 192 _ rfl]
theorem s5_inv : s5 m c t (inv m c t (8 * (t.val % 32))) = inv m c t (8 * (t.val % 32) + 5) := by
  rw [s5, s4_inv, pay36_eq, upd_inv m c t 4 (by omega) 256 _ rfl]
theorem s6_inv : s6 m c t (inv m c t (8 * (t.val % 32))) = inv m c t (8 * (t.val % 32) + 6) := by
  rw [s6, s5_inv, pay39_eq, upd_inv m c t 5 (by omega) 320 _ rfl]
theorem s7_inv : s7 m c t (inv m c t (8 * (t.val % 32))) = inv m c t (8 * (t.val % 32) + 7) := by
  rw [s7, s6_inv, pay43_eq, upd_inv m c t 6 (by omega) 384 _ rfl]

/-- A tile's eight chunks take the states eight steps further. -/
theorem tileS_inv : tileS m c t (inv m c t (8 * (t.val % 32))) = inv m c t (8 * (t.val % 32) + 8) := by
  rw [tileS, s7_inv, pay48_eq, upd_inv m c t 7 (by omega) 448 _ rfl]

end

/-- What a tile leaves in the scratch where a sequence's pair of heads begins. -/
theorem scratchA (c : Dev nD) (t : Fin cfg0.N) (h : t.val % 32 = 0) : (outsAt0 m c t.val t.isLt).2 = tileS m c t (k0_pay1 (F := Ideal)) := by
  rw [outsAt0_A m c t h]; frame_out
  rfl

/-- What a later tile leaves in the scratch. -/
theorem scratchB (c : Dev nD) (t : Fin cfg0.N) (h : ¬ t.val % 32 = 0) : (outsAt0 m c t.val t.isLt).2
    = tileS m c t (outsAt0 m c (t.val - 1) (Nat.lt_of_le_of_lt (Nat.sub_le _ _) t.isLt)).2 := by
  rw [outsAt0_B m c t h]; frame_out
  generalize (outsAt0 m c (t.val - 1) (Nat.lt_of_le_of_lt (Nat.sub_le _ _) t.isLt)).2 = st
  simp only [read_unread_whole]
  rfl

/-- The states at the start of a sequence are 0. -/
theorem inv_zero (c : Dev nD) (t : Fin cfg0.N) : (k0_pay1 (F := Ideal) : FVec Ideal S256x128 .f32) = inv m c t 0 := by
  funext j; idx_vars j
  rw [inv_at, state, ite_self]
  exact pay1_at j1 j0

/-- The scratch after each tile. -/
theorem scratch (c : Dev nD) : ∀ (n : ℕ) (hn : n < cfg0.N), (outsAt0 m c n hn).2 = inv m c ⟨n, hn⟩ (8 * (n % 32) + 8) := by
  intro n
  induction n with
  | zero =>
    intro hn
    refine (scratchA m c ⟨0, hn⟩ rfl).trans ?_
    rw [inv_zero m c ⟨0, hn⟩]
    exact tileS_inv m c ⟨0, hn⟩
  | succ n ih =>
    intro hn
    by_cases h : (n + 1) % 32 = 0
    · refine (scratchA m c ⟨n + 1, hn⟩ h).trans ?_
      rw [inv_zero m c ⟨n + 1, hn⟩]
      have := tileS_inv m c ⟨n + 1, hn⟩
      simp only [h, Nat.mul_zero, Nat.zero_add] at this ⊢
      exact this
    · refine (scratchB m c ⟨n + 1, hn⟩ h).trans ?_
      refine (congrArg (tileS m c ⟨n + 1, hn⟩) ((ih (Nat.lt_of_succ_lt hn)).trans ?_)).trans (tileS_inv m c ⟨n + 1, hn⟩)
      funext j; idx_vars j
      rw [inv_at, inv_at]
      simp only []
      rw [show n / 64 = (n + 1) / 64 by omega, show n / 32 = (n + 1) / 32 by omega, show 8 * (n % 32) + 8 = 8 * ((n + 1) % 32) by omega]

/-- What a tile finds in the scratch, where that is not cleared first. -/
theorem before (c : Dev nD) (t : Fin cfg0.N) (h : ¬ t.val % 32 = 0) :
    (outsAt0 m c (t.val - 1) (Nat.lt_of_le_of_lt (Nat.sub_le _ _) t.isLt)).2 = inv m c t (8 * (t.val % 32)) := by
  rw [scratch]
  funext j; idx_vars j
  rw [inv_at, inv_at]
  simp only []
  rw [show (t.val - 1) / 64 = t.val / 64 by omega, show (t.val - 1) / 32 = t.val / 32 by omega, show 8 * ((t.val - 1) % 32) + 8 = 8 * (t.val % 32) by omega]

section
variable (c : Dev nD) (t : Fin cfg0.N) (st : FVec Ideal S256x128 .f32)

/-- The retention's rows of each of a tile's chunks. -/
def o8 : ℕ → FVec Ideal S64x256 .f32
  | 0 => k0_pay18 (k0_pay16 (tV m c t) (tQ m c t) (tK m c t) (iblk m c 6 t)) st (k0_pay17 (tQI m c t))
  | 1 => k0_pay21 (tV m c t) (tQ m c t) (tK m c t) (tQI m c t) (tDM m c t) (s1 m c t st)
  | 2 => k0_pay24 (tV m c t) (tQ m c t) (tK m c t) (tQI m c t) (tDM m c t) (s2 m c t st)
  | 3 => k0_pay29 (tV m c t) (tQ m c t) (tK m c t) (tQI m c t) (tDM m c t) (s3 m c t st)
  | 4 => k0_pay34 (tV m c t) (tQ m c t) (tK m c t) (tQI m c t) (tDM m c t) (s4 m c t st)
  | 5 => k0_pay38 (tV m c t) (tQ m c t) (tK m c t) (tQI m c t) (tDM m c t) (s5 m c t st)
  | 6 => k0_pay42 (tV m c t) (tK m c t) (tQI m c t) (tDM m c t) (k0_pay40 (tQ m c t)) (s6 m c t st)
  | _ => outp (tV m c t) (tQ m c t) (tK m c t) (tQI m c t) (tDM m c t) 448 (by omega) (s7 m c t st)

/-- What a tile writes to the result. -/
def tileO : FVec Ideal S512x256 .bf16 :=
  k0_pay52 (k0_pay49 (tV m c t) (tQI m c t) (tDM m c t) (o8 m c t st 0) (o8 m c t st 1) (o8 m c t st 2) (o8 m c t st 3) (o8 m c t st 4) (o8 m c t st 5)
      (o8 m c t st 6) (k0_pay44 (tQ m c t)) (k0_pay45 (tK m c t)) (iota .tc S64x128 32 [1] iota_S64x128_d1_w32) k0_pay46 (s7 m c t st))
    (k0_pay50 (tV m c t) (tQI m c t) (tDM m c t) (o8 m c t st 0) (o8 m c t st 1) (o8 m c t st 2) (o8 m c t st 3) (o8 m c t st 4) (o8 m c t st 5)
      (o8 m c t st 6) (k0_pay44 (tQ m c t)) (k0_pay45 (tK m c t)) (iota .tc S64x128 32 [1] iota_S64x128_d1_w32) k0_pay46 (s7 m c t st))
    (k0_pay51 (tV m c t) (tQI m c t) (tDM m c t) (o8 m c t st 0) (o8 m c t st 1) (o8 m c t st 2) (o8 m c t st 3) (o8 m c t st 4) (o8 m c t st 5)
      (o8 m c t st 6) (k0_pay44 (tQ m c t)) (k0_pay45 (tK m c t)) (iota .tc S64x128 32 [1] iota_S64x128_d1_w32) k0_pay46 (s7 m c t st))
    (iblk m c 10 t) (iblk m c 3 t)

/-- Each chunk's rows are the retention's. -/
theorem o8_inv (k : ℕ) (hk : k ≤ 7) (r : Fin 64) (e : Fin 256) : o8 m c t (inv m c t (8 * (t.val % 32))) k (ix2 r e)
    = oret (X0 m c) (t.val / 64) (2 * (t.val / 32 % 2) + e / 128) (512 * (t.val % 32) + (64 * k + r)) (e % 128) := by
  rw [← outp_inv m c t k hk (64 * k) (by omega) rfl r e]
  refine congrFun ?_ _
  obtain rfl | rfl | rfl | rfl | rfl | rfl | rfl | rfl : k = 0 ∨ k = 1 ∨ k = 2 ∨ k = 3 ∨ k = 4 ∨ k = 5 ∨ k = 6 ∨ k = 7 := by omega
  · exact pay18_eq _ _ _ _ _ _
  · exact (congrArg (k0_pay21 (tV m c t) (tQ m c t) (tK m c t) (tQI m c t) (tDM m c t)) (s1_inv m c t)).trans (pay21_eq _ _ _ _ _ _)
  · exact (congrArg (k0_pay24 (tV m c t) (tQ m c t) (tK m c t) (tQI m c t) (tDM m c t)) (s2_inv m c t)).trans (pay24_eq _ _ _ _ _ _)
  · exact (congrArg (k0_pay29 (tV m c t) (tQ m c t) (tK m c t) (tQI m c t) (tDM m c t)) (s3_inv m c t)).trans (pay29_eq _ _ _ _ _ _)
  · exact (congrArg (k0_pay34 (tV m c t) (tQ m c t) (tK m c t) (tQI m c t) (tDM m c t)) (s4_inv m c t)).trans (pay34_eq _ _ _ _ _ _)
  · exact (congrArg (k0_pay38 (tV m c t) (tQ m c t) (tK m c t) (tQI m c t) (tDM m c t)) (s5_inv m c t)).trans (pay38_eq _ _ _ _ _ _)
  · exact (congrArg (k0_pay42 (tV m c t) (tK m c t) (tQI m c t) (tDM m c t) (k0_pay40 (tQ m c t))) (s6_inv m c t)).trans (pay42_eq _ _ _ _ _ _)
  · exact congrArg (outp (tV m c t) (tQ m c t) (tK m c t) (tQI m c t) (tDM m c t) 448 (by omega)) (s7_inv m c t)

/-- The rows that the norm reads. -/
theorem rows_inv (r : Fin 512) (e : Fin 256) :
    k0_pay49 (tV m c t) (tQI m c t) (tDM m c t) (o8 m c t (inv m c t (8 * (t.val % 32))) 0) (o8 m c t (inv m c t (8 * (t.val % 32))) 1)
      (o8 m c t (inv m c t (8 * (t.val % 32))) 2) (o8 m c t (inv m c t (8 * (t.val % 32))) 3) (o8 m c t (inv m c t (8 * (t.val % 32))) 4)
      (o8 m c t (inv m c t (8 * (t.val % 32))) 5) (o8 m c t (inv m c t (8 * (t.val % 32))) 6) (k0_pay44 (tQ m c t)) (k0_pay45 (tK m c t))
      (iota .tc S64x128 32 [1] iota_S64x128_d1_w32) k0_pay46 (s7 m c t (inv m c t (8 * (t.val % 32)))) (ix2 r e)
    = oret (X0 m c) (t.val / 64) (2 * (t.val / 32 % 2) + e / 128) (512 * (t.val % 32) + r) (e % 128) := by
  refine (pay49_at _ (tQ m c t) (tK m c t) _ _ (o8 m c t (inv m c t (8 * (t.val % 32)))) _ rfl r e).trans ?_
  rw [o8_inv m c t _ (by omega)]
  simp only []
  rw [show 64 * (r.val / 64) + r.val % 64 = r.val by omega]

/-- The result's array in terms of the projected inputs. -/
abbrev resA : FVec Ideal S32768x512 .bf16 := fun j => res (X0 m c) (m ((c : Thread nD τ).loc main_arg1)) (j 0).val (j 1).val

theorem tileO_at (r : Fin 512) (e : Fin 256) : tileO m c t (inv m c t (8 * (t.val % 32))) (ix2 r e)
    = res (X0 m c) (m ((c : Thread nD τ).loc main_arg1)) (512 * (t.val / 64 * 32 + t.val % 32) + r) (256 * (t.val / 32 % 2) + e) := by
  have ht := ltN t
  rw [tileO, pay52_at, blk10, blk3]
  rw [res]
  have e1 : (512 * (t.val / 64 * 32 + t.val % 32) + r.val) / 16384 = t.val / 64 := by omega
  have e2 : (512 * (t.val / 64 * 32 + t.val % 32) + r.val) % 16384 = 512 * (t.val % 32) + r.val := by omega
  have e3 : (256 * (t.val / 32 % 2) + e.val) / 128 = 2 * (t.val / 32 % 2) + e.val / 128 := by omega
  have e4 : (256 * (t.val / 32 % 2) + e.val) % 128 = e.val % 128 := by omega
  have e5 : (256 * (t.val / 32 % 2) + e.val) % 512 = 256 * (t.val / 32 % 2) + e.val := by omega
  have e6 : 2560 + (256 * (t.val / 32 % 2) + e.val) = 2560 + 256 * (t.val / 32 % 2) + e.val := by omega
  have e7 : ∀ f : Fin 128, (128 * (e.val / 128) + f.val) / 128 = e.val / 128 := by omega
  have e8 : ∀ f : Fin 128, (128 * (e.val / 128) + f.val) % 128 = f.val := by omega
  simp only [e1, e2, e3, e4, e5, e6]
  refine congrArg₂ (· * ·) (congrArg₂ (· * ·) (congrFun (congrArg lnE (funext fun f => (rows_inv m c t r ⟨128 * (e.val / 128) + f.val, by omega⟩).trans ?_)) _) rfl) rfl
  simp only [e7, e8]

theorem outA (h : t.val % 32 = 0) : (outsAt0 m c t.val t.isLt).1 = tileO m c t (k0_pay1 (F := Ideal)) := by
  rw [outsAt0_A m c t h]; frame_out
  rfl

theorem outB (h : ¬ t.val % 32 = 0) : (outsAt0 m c t.val t.isLt).1
    = tileO m c t (outsAt0 m c (t.val - 1) (Nat.lt_of_le_of_lt (Nat.sub_le _ _) t.isLt)).2 := by
  rw [outsAt0_B m c t h]; frame_out
  generalize (outsAt0 m c (t.val - 1) (Nat.lt_of_le_of_lt (Nat.sub_le _ _) t.isLt)).2 = st
  simp only [read_unread_whole]
  rfl

/-- What every tile writes. -/
theorem out : (outsAt0 m c t.val t.isLt).1 = tileO m c t (inv m c t (8 * (t.val % 32))) := by
  by_cases h : t.val % 32 = 0
  · rw [outA m c t h, inv_zero m c t, h]
  · rw [outB m c t h, before m c t h]
end

/-- The result's array after the run. -/
theorem final (c : Dev nD) : (dats m 0 c).arrAt 11 (cfgs 0).N = resA m c := by
  refine (dats m 0 c).arrAt_eq_of_covers 11 _ (by decide +kernel) fun t _ y => ?_
  blk_simp
  rw [after0_11, out]
  idx_vars y
  refine (tileO_at m c t y0 y1).trans ?_
  refine congrArg₂ (res (X0 m c) (m ((c : Thread nD τ).loc main_arg1))) ?_ ?_
  · blk_simp [idx t]
    omega
  · blk_simp [idx t]
    omega

end Cert.Ret

end
-- ==== Proof.RetRefQ.lean ====
module

public import proofs.«01_k».proof.Proof.RetSpec
public import proofs.«01_k».proof.Proof.Gen.ReferenceIdeal.Run
public import Idealize.ShloMosaic.Lib.StableHlo.ReadAt
public import Idealize.ShloMosaic.Lib.Pointwise

@[expose] public section

set_option maxRecDepth 65536

noncomputable section

namespace Cert.RetRef

open Idealize.ShloMosaic Idealize.ShloMosaic.TcCoe Idealize.SL.Sem Idealize.ShloMosaic.StableHlo
open Cert.ReferenceIdeal Cert.ReferenceIdeal.Gen Cert.ReferenceIdeal.Value
open Cert.Ret (fl ang lg zet xit gch dmk row col xat rot qs ks vs ustep state oret lnE siluE res)

variable (m : (ℓ : Loc nD τ sig) → Buf (Elt Ideal) ℓ)

set_option maxHeartbeats 4000000 in
/-- The rotated queries, by chunk. -/
theorem u83 (W : Valuation τ sig (Elt Ideal)) (b : Fin 2) (h : Fin 4) (n : Fin 256) (s d : Fin 64) :
    (after hostOps0 W (Proc.devRef .tc main_v83) : FVec Ideal S2x4x256x64x64 .f32) (ix5 b h n s d) = qs (W (Proc.devRef .tc main_arg0)) b h (64 * n + s) d := by
  after_reads_at
  split
  next hd =>
    after_reads_simp
    try simp -implicitDefEqProofs only [StableHlo.TRef.toBuf, StableHlo.TRef.ofBuf, cast_cast, cast_eq]
    clean_types
    eta_reduce
    pointwise
    have hr : ∀ (k : ℕ) p₁ p₂, (ix2 (⟨b.val * 16384 + (n.val * 64 + s.val), p₁⟩ : Fin 32768) (⟨k, p₂⟩ : Fin 3072)) = ix2 (row b (64 * n + s)) (col k) := by
      intro k p₁ p₂
      congr 1 <;> ext <;> simp only [row, col] <;> omega
    simp only [hr, qs, rot, xat, ang, fl]
    rw [if_pos hd, show 1536 + (h.val * 64 + d.val) = 1536 + 64 * h.val + d.val by omega, show 1536 + (h.val * 64 + (32 + d.val)) = 1536 + 64 * h.val + (d.val + 32) by omega,
      show n.val * 64 + s.val = 64 * n.val + s.val by omega]
  next hd =>
    after_reads_simp
    try simp -implicitDefEqProofs only [StableHlo.TRef.toBuf, StableHlo.TRef.ofBuf, cast_cast, cast_eq]
    clean_types
    eta_reduce
    pointwise
    have hr : ∀ (k : ℕ) p₁ p₂, (ix2 (⟨b.val * 16384 + (n.val * 64 + s.val), p₁⟩ : Fin 32768) (⟨k, p₂⟩ : Fin 3072)) = ix2 (row b (64 * n + s)) (col k) := by
      intro k p₁ p₂
      congr 1 <;> ext <;> simp only [row, col] <;> omega
    simp only [hr, qs, rot, xat, ang, fl]
    rw [if_neg hd, show 1536 + (h.val * 64 + (d.val - 32)) = 1536 + 64 * h.val + (d.val - 32) by omega, show 1536 + (h.val * 64 + (32 + (d.val - 32))) = 1536 + 64 * h.val + d.val by omega,
      show n.val * 64 + s.val = 64 * n.val + s.val by omega]

end Cert.RetRef

end
-- ==== Proof.RetRefK.lean ====
module

public import proofs.«01_k».proof.Proof.RetSpec
public import proofs.«01_k».proof.Proof.Gen.ReferenceIdeal.Run
public import Idealize.ShloMosaic.Lib.StableHlo.ReadAt
public import Idealize.ShloMosaic.Lib.Pointwise

@[expose] public section

set_option maxRecDepth 65536

noncomputable section

namespace Cert.RetRef

open Idealize.ShloMosaic Idealize.ShloMosaic.TcCoe Idealize.SL.Sem Idealize.ShloMosaic.StableHlo
open Cert.ReferenceIdeal Cert.ReferenceIdeal.Gen Cert.ReferenceIdeal.Value
open Cert.Ret (fl ang lg zet xit gch dmk row col xat rot qs ks vs ustep state oret lnE siluE res)

variable (m : (ℓ : Loc nD τ sig) → Buf (Elt Ideal) ℓ)

set_option maxHeartbeats 4000000 in
/-- The rotated and scaled keys, by chunk. -/
theorem u84 (W : Valuation τ sig (Elt Ideal)) (b : Fin 2) (h : Fin 4) (n : Fin 256) (s d : Fin 64) :
    (after hostOps0 W (Proc.devRef .tc main_v84) : FVec Ideal S2x4x256x64x64 .f32) (ix5 b h n s d) = ks (W (Proc.devRef .tc main_arg0)) b h (64 * n + s) d := by
  after_reads_at
  rw [ks]
  congr 1
  split
  next hd =>
    after_reads_simp
    try simp -implicitDefEqProofs only [StableHlo.TRef.toBuf, StableHlo.TRef.ofBuf, cast_cast, cast_eq]
    clean_types
    eta_reduce
    pointwise
    have hr : ∀ (k : ℕ) p₁ p₂, (ix2 (⟨b.val * 16384 + (n.val * 64 + s.val), p₁⟩ : Fin 32768) (⟨k, p₂⟩ : Fin 3072)) = ix2 (row b (64 * n + s)) (col k) := by
      intro k p₁ p₂
      congr 1 <;> ext <;> simp only [row, col] <;> omega
    simp only [hr, rot, xat, ang, fl]
    rw [if_pos hd, show 1792 + (h.val * 64 + d.val) = 1792 + 64 * h.val + d.val by omega, show 1792 + (h.val * 64 + (32 + d.val)) = 1792 + 64 * h.val + (d.val + 32) by omega,
      show n.val * 64 + s.val = 64 * n.val + s.val by omega]
  next hd =>
    after_reads_simp
    try simp -implicitDefEqProofs only [StableHlo.TRef.toBuf, StableHlo.TRef.ofBuf, cast_cast, cast_eq]
    clean_types
    eta_reduce
    pointwise
    have hr : ∀ (k : ℕ) p₁ p₂, (ix2 (⟨b.val * 16384 + (n.val * 64 + s.val), p₁⟩ : Fin 32768) (⟨k, p₂⟩ : Fin 3072)) = ix2 (row b (64 * n + s)) (col k) := by
      intro k p₁ p₂
      congr 1 <;> ext <;> simp only [row, col] <;> omega
    simp only [hr, rot, xat, ang, fl]
    rw [if_neg hd, show 1792 + (h.val * 64 + (d.val - 32)) = 1792 + 64 * h.val + (d.val - 32) by omega, show 1792 + (h.val * 64 + (32 + (d.val - 32))) = 1792 + 64 * h.val + d.val by omega,
      show n.val * 64 + s.val = 64 * n.val + s.val by omega]

end Cert.RetRef

end
-- ==== Proof.RetRefV.lean ====
module

public import proofs.«01_k».proof.Proof.RetSpec
public import proofs.«01_k».proof.Proof.Gen.ReferenceIdeal.Run
public import Idealize.ShloMosaic.Lib.StableHlo.ReadAt
public import Idealize.ShloMosaic.Lib.Pointwise

@[expose] public section

set_option maxRecDepth 65536

noncomputable section

namespace Cert.RetRef

open Idealize.ShloMosaic Idealize.ShloMosaic.TcCoe Idealize.SL.Sem Idealize.ShloMosaic.StableHlo
open Cert.ReferenceIdeal Cert.ReferenceIdeal.Gen Cert.ReferenceIdeal.Value
open Cert.Ret (fl ang lg zet xit gch dmk row col xat rot qs ks vs ustep state oret lnE siluE res)

variable (m : (ℓ : Loc nD τ sig) → Buf (Elt Ideal) ℓ)

set_option maxHeartbeats 4000000 in
/-- The values, by chunk. -/
theorem u85 (W : Valuation τ sig (Elt Ideal)) (b : Fin 2) (h : Fin 4) (n : Fin 256) (s : Fin 64) (e : Fin 128) :
    (after hostOps0 W (Proc.devRef .tc main_v85) : FVec Ideal S2x4x256x64x128 .f32) (ix5 b h n s e) = vs (W (Proc.devRef .tc main_arg0)) b h (64 * n + s) e := by
  after_reads_simp
  try simp -implicitDefEqProofs only [StableHlo.TRef.toBuf, StableHlo.TRef.ofBuf, cast_cast, cast_eq]
  clean_types
  eta_reduce
  pointwise
  rw [vs, xat]
  congr 1
  congr 1 <;> ext <;> simp only [row, col] <;> omega
set_option maxHeartbeats 4000000 in
/-- The gate's inputs. -/
theorem u4 (W : Valuation τ sig (Elt Ideal)) (b : Fin 2) (p : Fin 16384) (f : Fin 512) :
    (after hostOps0 W (Proc.devRef .tc main_v4) : FVec Ideal S2x16384x512 .f32) (ix3 b p f) = xat (W (Proc.devRef .tc main_arg0)) b p (2560 + f) := by
  after_reads_simp
  try simp -implicitDefEqProofs only [StableHlo.TRef.toBuf, StableHlo.TRef.ofBuf, cast_cast, cast_eq]
  clean_types
  eta_reduce
  pointwise
  rw [xat]
  congr 1
  congr 1 <;> ext <;> simp only [row, col] <;> omega
set_option maxHeartbeats 4000000 in
/-- The decays' logarithms. -/
theorem u82 (W : Valuation τ sig (Elt Ideal)) (h : Fin 4) : (after hostOps0 W (Proc.devRef .tc main_v82) : FVec Ideal S4 .f32) (ix1 h) = lg h := by
  after_reads_at
  rfl
set_option maxHeartbeats 4000000 in
/-- The positions inside a chunk. -/
theorem u86 (W : Valuation τ sig (Elt Ideal)) (s : Fin 64) : (after hostOps0 W (Proc.devRef .tc main_v86) : FVec Ideal S64 .f32) (ix1 s) = fl s := by
  after_reads_at
  rfl
set_option maxHeartbeats 4000000 in
/-- The decays between the tokens of a chunk. -/
theorem u102 (W : Valuation τ sig (Elt Ideal)) (h : Fin 4) (i j : Fin 64) :
    (after hostOps0_1 (after hostOps0 W) (Proc.devRef .tc main_v102) : FVec Ideal S4x64x64 .f32) (ix3 h i j) = dmk h i j := by
  after_reads_at
  simp only [id_eq]
  pointwise
  rfl

end Cert.RetRef

end
-- ==== Proof.RetRefU.lean ====
module

public import proofs.«01_k».proof.Proof.RetSpec
public import proofs.«01_k».proof.Proof.Gen.ReferenceIdeal.Run
public import Idealize.ShloMosaic.Lib.StableHlo.ReadAt
public import Idealize.ShloMosaic.Lib.Pointwise

@[expose] public section

set_option maxRecDepth 65536

noncomputable section

namespace Cert.RetRef

open Idealize.ShloMosaic Idealize.ShloMosaic.TcCoe Idealize.SL.Sem Idealize.ShloMosaic.StableHlo
open Cert.ReferenceIdeal Cert.ReferenceIdeal.Gen Cert.ReferenceIdeal.Value
open Cert.Ret (fl ang lg zet xit gch dmk row col xat rot qs ks vs ustep state oret lnE siluE res)

variable (m : (ℓ : Loc nD τ sig) → Buf (Elt Ideal) ℓ)

/-- The output from inside the chunk. -/
def inner (X : FVec Ideal S32768x3072 .f32) (b h p e : ℕ) : EReal :=
  ∑ j : Fin 64, (∑ d : Fin 64, qs X b h p d * ks X b h (64 * (p / 64) + j) d) * dmk h (p % 64) j * vs X b h (64 * (p / 64) + j) e

set_option maxHeartbeats 4000000 in
/-- What each chunk adds to the state. -/
theorem u121 (X : FVec Ideal S32768x3072 .f32) (W : Valuation τ sig (Elt Ideal))
    (h84 : ∀ (b : Fin 2) (h : Fin 4) (n : Fin 256) (s d : Fin 64), (W (Proc.devRef .tc main_v84) : FVec Ideal S2x4x256x64x64 .f32) (ix5 b h n s d) = ks X b h (64 * n + s) d)
    (h85 : ∀ (b : Fin 2) (h : Fin 4) (n : Fin 256) (s : Fin 64) (e : Fin 128), (W (Proc.devRef .tc main_v85) : FVec Ideal S2x4x256x64x128 .f32) (ix5 b h n s e) = vs X b h (64 * n + s) e)
    (h82 : ∀ h : Fin 4, (W (Proc.devRef .tc main_v82) : FVec Ideal S4 .f32) (ix1 h) = lg h) (h86 : ∀ s : Fin 64, (W (Proc.devRef .tc main_v86) : FVec Ideal S64 .f32) (ix1 s) = fl s)
    (b : Fin 2) (h : Fin 4) (n : Fin 256) (d : Fin 64) (e : Fin 128) :
    (after hostOps0_2 W (Proc.devRef .tc main_v128_0) : FVec Ideal S256x2x4x64x128 .f32) (ix5 n b h d e) = ustep X b h d e n := by
  after_reads_at
  simp only [id_eq]
  pointwise
  simp only [h84, h85, h82, h86]
  rfl
set_option maxHeartbeats 4000000 in
/-- The output from inside the chunk, computed. -/
theorem u108 (X : FVec Ideal S32768x3072 .f32) (W : Valuation τ sig (Elt Ideal))
    (h83 : ∀ (b : Fin 2) (h : Fin 4) (n : Fin 256) (s d : Fin 64), (W (Proc.devRef .tc main_v83) : FVec Ideal S2x4x256x64x64 .f32) (ix5 b h n s d) = qs X b h (64 * n + s) d)
    (h84 : ∀ (b : Fin 2) (h : Fin 4) (n : Fin 256) (s d : Fin 64), (W (Proc.devRef .tc main_v84) : FVec Ideal S2x4x256x64x64 .f32) (ix5 b h n s d) = ks X b h (64 * n + s) d)
    (h85 : ∀ (b : Fin 2) (h : Fin 4) (n : Fin 256) (s : Fin 64) (e : Fin 128), (W (Proc.devRef .tc main_v85) : FVec Ideal S2x4x256x64x128 .f32) (ix5 b h n s e) = vs X b h (64 * n + s) e)
    (h102 : ∀ (h : Fin 4) (i j : Fin 64), (W (Proc.devRef .tc main_v102) : FVec Ideal S4x64x64 .f32) (ix3 h i j) = dmk h i j)
    (b : Fin 2) (h : Fin 4) (n : Fin 256) (s : Fin 64) (e : Fin 128) :
    (after hostOps0_2 W (Proc.devRef .tc main_v108) : FVec Ideal S2x4x256x64x128 .f32) (ix5 b h n s e) = inner X b h (64 * n + s) e := by
  after_reads_at
  simp only [h83, h84, h85, h102]
  rw [inner, show (64 * n.val + s.val) / 64 = n.val by omega, show (64 * n.val + s.val) % 64 = s.val by omega]
set_option maxHeartbeats 4000000 in
/-- The decay over a chunk. -/
theorem u1281 (X : FVec Ideal S32768x3072 .f32) (W : Valuation τ sig (Elt Ideal)) (h82 : ∀ h : Fin 4, (W (Proc.devRef .tc main_v82) : FVec Ideal S4 .f32) (ix1 h) = lg h) (h : Fin 4) :
    (after hostOps0_2 W (Proc.devRef .tc main_v128_1) : FVec Ideal S4x1x1 .f32) (ix3 h 0 0) = gch h := by
  after_reads_at
  simp only [id_eq]
  pointwise
  simp only [h82]
  rfl
set_option maxHeartbeats 4000000 in
/-- The state starts at zero. -/
theorem u1283 (W : Valuation τ sig (Elt Ideal)) (b : Fin 2) (h : Fin 4) (d : Fin 64) (e : Fin 128) :
    (after hostOps0_2 W (Proc.devRef .tc main_v128_3) : FVec Ideal S2x4x64x128 .f32) (ix4 b h d e) = (0 : EReal) := by
  after_reads_at
  simp only [id_eq]
  pointwise

end Cert.RetRef

end
-- ==== Proof.RetRefN.lean ====
module

public import proofs.«01_k».proof.Proof.RetSpec
public import proofs.«01_k».proof.Proof.Gen.ReferenceIdeal.Run
public import Idealize.ShloMosaic.Lib.StableHlo.ReadAt
public import Idealize.ShloMosaic.Lib.Pointwise

@[expose] public section

set_option maxRecDepth 65536

noncomputable section

namespace Cert.RetRef

open Idealize.ShloMosaic Idealize.ShloMosaic.TcCoe Idealize.SL.Sem Idealize.ShloMosaic.StableHlo
open Cert.ReferenceIdeal Cert.ReferenceIdeal.Gen Cert.ReferenceIdeal.Value
open Cert.Ret (fl ang lg zet xit gch dmk row col xat rot qs ks vs ustep state oret lnE siluE res)

variable (m : (ℓ : Loc nD τ sig) → Buf (Elt Ideal) ℓ)

set_option maxHeartbeats 4000000 in
/-- The result's last steps: the gate. -/
theorem u168 (W : Valuation τ sig (Elt Ideal)) (P : Fin 32768) (f : Fin 512) (u v : EReal)
    (hu : (W (Proc.devRef .tc main_v164) : FVec Ideal S2x16384x512 .f32) (ix3 ⟨P.val / 16384, by omega⟩ ⟨P.val % 16384, by omega⟩ f) = u)
    (hv : (W (Proc.devRef .tc main_v4) : FVec Ideal S2x16384x512 .f32) (ix3 ⟨P.val / 16384, by omega⟩ ⟨P.val % 16384, by omega⟩ f) = v) :
    (after hostOps0_5 (after hostOps0_4 W) (Proc.devRef .tc main_v168) : FVec Ideal S32768x512 .bf16) (ix2 P f) = u * siluE v := by
  after_reads_at
  rw [hu, hv]
  rfl
set_option maxHeartbeats 4000000 in
/-- The head normalization and its scale. -/
theorem u164 (X : FVec Ideal S32768x3072 .f32) (W : Valuation τ sig (Elt Ideal))
    (nm : FVec Ideal S512 .f32) (o : Fin 2 → Fin 4 → Fin 256 → Fin 64 → Fin 128 → EReal)
    (h108 : ∀ (b : Fin 2) (h : Fin 4) (n : Fin 256) (s : Fin 64) (e : Fin 128), (W (Proc.devRef .tc main_v108) : FVec Ideal S2x4x256x64x128 .f32) (ix5 b h n s e) = o b h n s e)
    (h83 : ∀ (b : Fin 2) (h : Fin 4) (n : Fin 256) (s d : Fin 64), (W (Proc.devRef .tc main_v83) : FVec Ideal S2x4x256x64x64 .f32) (ix5 b h n s d) = qs X b h (64 * n + s) d)
    (h82 : ∀ h : Fin 4, (W (Proc.devRef .tc main_v82) : FVec Ideal S4 .f32) (ix1 h) = lg h) (h86 : ∀ s : Fin 64, (W (Proc.devRef .tc main_v86) : FVec Ideal S64 .f32) (ix1 s) = fl s)
    (st : Fin 256 → Fin 2 → Fin 4 → Fin 64 → Fin 128 → EReal)
    (hs : ∀ (n : Fin 256) (b : Fin 2) (h : Fin 4) (d : Fin 64) (e : Fin 128), (W (Proc.devRef .tc main_v128_4) : FVec Ideal S256x2x4x64x128 .f32) (ix5 n b h d e) = st n b h d e)
    (hn : W (Proc.devRef .tc main_arg1) = nm)
    (b : Fin 2) (p : Fin 16384) (f : Fin 512) :
    (after hostOps0_3 W (Proc.devRef .tc main_v164) : FVec Ideal S2x16384x512 .f32) (ix3 b p f)
      = lnE (fun e : Fin 128 => o b ⟨f.val / 128, by omega⟩ ⟨p.val / 64, by omega⟩ ⟨p.val % 64, by omega⟩ e
          + ∑ d : Fin 64, qs X b (f.val / 128) (64 * (p.val / 64) + p.val % 64) d * xit (f.val / 128) (p.val % 64)
              * st ⟨p.val / 64, by omega⟩ b ⟨f.val / 128, by omega⟩ d e) ⟨f.val % 128, by omega⟩
        * nm (ix1 f) := by
  after_reads_at
  simp only [h108, h83, h82, h86, hs, hn]
  rfl

end Cert.RetRef

end
-- ==== Proof.RetRefT.lean ====
module

public import proofs.«01_k».proof.Proof.RetSpec
public import proofs.«01_k».proof.Proof.Gen.ReferenceIdeal.Run
public import Idealize.ShloMosaic.Lib.StableHlo.ReadAt
public import Idealize.ShloMosaic.Lib.DynamicIndex
public import Idealize.ShloMosaic.Lib.Pointwise

@[expose] public section

set_option maxRecDepth 65536

noncomputable section

namespace Cert.RetRef

open Idealize.ShloMosaic Idealize.ShloMosaic.TcCoe Idealize.SL.Sem Idealize.ShloMosaic.StableHlo
open Cert.ReferenceIdeal Cert.ReferenceIdeal.Gen Cert.ReferenceIdeal.Value
open Cert.Ret (fl ang lg zet xit gch dmk row col xat rot qs ks vs ustep state oret lnE siluE res)

variable (m : (ℓ : Loc nD τ sig) → Buf (Elt Ideal) ℓ)

/-- The starts of a trip's block. -/
theorem starts (k : ℕ) (hk : k < 256) (a : Fin 5) :
    BitVec.toInt ((![fun _ => Scf.iv 0#32 1#32 k, constantI S_ 32 0#32, constantI S_ 32 0#32, constantI S_ 32 0#32, constantI S_ 32 0#32] : Fin 5 → (⟨S_, .i32⟩ : BufTy).Contents (Elt Ideal)) a (Shape.Idx.first h_S_))
      = ((![k, 0, 0, 0, 0] : Fin 5 → ℕ) a : Int) := by
  fin_cases a
  · show (Scf.iv 0#32 1#32 k).toInt = (k : Int)
    rw [show Scf.iv 0#32 1#32 k = BitVec.ofNat 32 k by simp [Scf.iv]]
    exact toInt_ofNat_of_lt (by omega)
  all_goals rfl
/-- One trip's state. -/
theorem t3 (W : Valuation τ sig (Elt Ideal)) (k : ℕ) (hk : k < 256) (hc : W (Proc.devRef .tc main_v128_2) = fun _ => Scf.iv 0#32 1#32 k)
    (b : Fin 2) (h : Fin 4) (d : Fin 64) (e : Fin 128) (g s u : EReal)
    (hg : (W (Proc.devRef .tc main_v128_1) : FVec Ideal S4x1x1 .f32) (ix3 h 0 0) = g)
    (hs : (W (Proc.devRef .tc main_v128_3) : FVec Ideal S2x4x64x128 .f32) (ix4 b h d e) = s)
    (hu : (W (Proc.devRef .tc main_v128_0) : FVec Ideal S256x2x4x64x128 .f32) (ix5 ⟨k, hk⟩ b h d e) = u) :
    (afterL bodyI W (Proc.devRef .tc main_v128_3) : FVec Ideal S2x4x64x128 .f32) (ix4 b h d e) = g * s + u := by
  rw [trip_main_v128_3, hc]
  rw [Host.dynamicSlice_eq_extractStridedSlice _ _ _ ![k, 0, 0, 0, 0] _ (by
    refine ⟨rfl, fun a => ?_⟩
    fin_cases a <;> simp <;> omega) (starts k hk)]
  simp only [id_eq]
  clean_types
  eta_reduce
  pointwise
  rw [hg, hs, hu]
/-- One trip's stacked states. -/
theorem t4 (W : Valuation τ sig (Elt Ideal)) (k : ℕ) (hk : k < 256) (hc : W (Proc.devRef .tc main_v128_2) = fun _ => Scf.iv 0#32 1#32 k)
    (b : Fin 2) (h : Fin 4) (n : Fin 256) (d : Fin 64) (e : Fin 128) :
    (afterL bodyI W (Proc.devRef .tc main_v128_4) : FVec Ideal S256x2x4x64x128 .f32) (ix5 n b h d e)
      = if n.val = k then (W (Proc.devRef .tc main_v128_3) : FVec Ideal S2x4x64x128 .f32) (ix4 b h d e)
        else (W (Proc.devRef .tc main_v128_4) : FVec Ideal S256x2x4x64x128 .f32) (ix5 n b h d e) := by
  rw [trip_main_v128_4, hc]
  rw [Host.dynamicUpdateSlice_eq_updateSlice _ _ _ _ ![k, 0, 0, 0, 0] (by
    intro a
    refine (congrArg (fun z : Int => (min (max z 0) _).toNat) (starts k hk a)).trans ?_
    fin_cases a <;> simp <;> omega) (by
    refine ⟨rfl, fun a => ?_⟩
    fin_cases a <;> simp <;> omega)]
  simp only [id_eq]
  clean_types
  eta_reduce
  pointwise
  simp only [show (k ≤ n.val ∧ n.val < k + 1) ↔ n.val = k by omega]
  rfl

end Cert.RetRef

end
-- ==== Proof.RetRef.lean ====
module

public import proofs.«01_k».proof.Proof.RetSpec
public import proofs.«01_k».proof.Proof.Gen.ReferenceIdeal.Run
public import Idealize.ShloMosaic.Lib.StableHlo.ReadAt
public import proofs.«01_k».proof.Proof.RetRefQ
public import proofs.«01_k».proof.Proof.RetRefK
public import proofs.«01_k».proof.Proof.RetRefV
public import proofs.«01_k».proof.Proof.RetRefU
public import proofs.«01_k».proof.Proof.RetRefN
public import proofs.«01_k».proof.Proof.RetRefT

@[expose] public section

set_option maxRecDepth 65536

noncomputable section

namespace Cert.RetRef

open Idealize.ShloMosaic Idealize.ShloMosaic.TcCoe Idealize.SL.Sem Idealize.ShloMosaic.StableHlo
open Cert.ReferenceIdeal Cert.ReferenceIdeal.Gen Cert.ReferenceIdeal.Value
open Cert.Ret (fl ang lg zet xit gch dmk row col xat rot qs ks vs ustep state oret lnE siluE res)

variable (m : (ℓ : Loc nD τ sig) → Buf (Elt Ideal) ℓ)

/-- Core `c`'s inputs. -/
abbrev X (c : Dev nD) : FVec Ideal S32768x3072 .f32 := m ((c : Thread nD τ).loc main_arg0)

/-- The contents at the loop's entry, written as the three stretches before it. -/
theorem entry (c : Dev nD) : entryContents preI m c = after hostOps0_2 (after hostOps0_1 (after hostOps0 (launchContents m c))) := rfl

/-- What the second stretch leaves as the first wrote it. -/
theorem keep1 (W : Valuation τ sig (Elt Ideal)) (r : Ref sig .tc) (h : r ∉ hostOps0_1_W) :
    after hostOps0_1 W (Proc.devRef .tc r) = W (Proc.devRef .tc r) :=
  after_of_writes_sub hostOps0_1 W hostOps0_1_writes h

/-- What the third stretch leaves as it was. -/
theorem keep2 (W : Valuation τ sig (Elt Ideal)) (r : Ref sig .tc) (h : r ∉ hostOps0_2_W) :
    after hostOps0_2 W (Proc.devRef .tc r) = W (Proc.devRef .tc r) :=
  after_of_writes_sub hostOps0_2 W hostOps0_2_writes h

/-- What one trip leaves as it was. -/
theorem keepT (W : Valuation τ sig (Elt Ideal)) (r : Ref sig .tc)
    (h : r ∉ condOps_W ∧ r ∉ while0Ops0_W ∧ r ∉ while0Ops0_1_W ∧ r ∉ while0Ops0_2_W ∧ r ∉ while0Ops0_3_W) :
    afterL bodyI (after condOps W) (Proc.devRef .tc r) = W (Proc.devRef .tc r) := by
  simp only [bodyI, afterL_cons, afterL_nil]
  rw [after_of_writes_sub while0Ops0_3 _ while0Ops0_3_writes h.2.2.2.2, after_of_writes_sub while0Ops0_2 _ while0Ops0_2_writes h.2.2.2.1,
    after_of_writes_sub while0Ops0_1 _ while0Ops0_1_writes h.2.2.1, after_of_writes_sub while0Ops0 _ while0Ops0_writes h.2.1,
    after_of_writes_sub condOps _ condOps_writes h.1]

/-- What every trip leaves as it was, before the `k`-th condition. -/
theorem keepK (c : Dev nD) (r : Ref sig .tc)
    (h : r ∉ condOps_W ∧ r ∉ while0Ops0_W ∧ r ∉ while0Ops0_1_W ∧ r ∉ while0Ops0_2_W ∧ r ∉ while0Ops0_3_W) :
    ∀ k, atK m k c (Proc.devRef .tc r) = entryContents preI m c (Proc.devRef .tc r)
  | 0 => rfl
  | k + 1 => (keepT (atK m k c) r h).trans (keepK c r h k)

theorem e82 (c : Dev nD) (h : Fin 4) : (entryContents preI m c (Proc.devRef .tc main_v82) : FVec Ideal S4 .f32) (ix1 h) = lg h := by
  rw [entry, keep2 _ _ (by decide +kernel), keep1 _ _ (by decide +kernel)]; exact u82 _ h
theorem e86 (c : Dev nD) (s : Fin 64) : (entryContents preI m c (Proc.devRef .tc main_v86) : FVec Ideal S64 .f32) (ix1 s) = fl s := by
  rw [entry, keep2 _ _ (by decide +kernel), keep1 _ _ (by decide +kernel)]; exact u86 _ s
theorem e83 (c : Dev nD) (b : Fin 2) (h : Fin 4) (n : Fin 256) (s d : Fin 64) :
    (entryContents preI m c (Proc.devRef .tc main_v83) : FVec Ideal S2x4x256x64x64 .f32) (ix5 b h n s d) = qs (X m c) b h (64 * n + s) d := by
  rw [entry, keep2 _ _ (by decide +kernel), keep1 _ _ (by decide +kernel)]; exact u83 _ b h n s d
theorem e4 (c : Dev nD) (b : Fin 2) (p : Fin 16384) (f : Fin 512) :
    (entryContents preI m c (Proc.devRef .tc main_v4) : FVec Ideal S2x16384x512 .f32) (ix3 b p f) = xat (X m c) b p (2560 + f) := by
  rw [entry, keep2 _ _ (by decide +kernel), keep1 _ _ (by decide +kernel)]; exact u4 _ b p f
theorem k82 (c : Dev nD) (h : Fin 4) : (after hostOps0_1 (after hostOps0 (launchContents m c)) (Proc.devRef .tc main_v82) : FVec Ideal S4 .f32) (ix1 h) = lg h := by
  rw [keep1 _ _ (by decide +kernel)]; exact u82 _ h
theorem k86 (c : Dev nD) (s : Fin 64) : (after hostOps0_1 (after hostOps0 (launchContents m c)) (Proc.devRef .tc main_v86) : FVec Ideal S64 .f32) (ix1 s) = fl s := by
  rw [keep1 _ _ (by decide +kernel)]; exact u86 _ s
theorem k83 (c : Dev nD) (b : Fin 2) (h : Fin 4) (n : Fin 256) (s d : Fin 64) :
    (after hostOps0_1 (after hostOps0 (launchContents m c)) (Proc.devRef .tc main_v83) : FVec Ideal S2x4x256x64x64 .f32) (ix5 b h n s d) = qs (X m c) b h (64 * n + s) d := by
  rw [keep1 _ _ (by decide +kernel)]; exact u83 _ b h n s d
theorem k84 (c : Dev nD) (b : Fin 2) (h : Fin 4) (n : Fin 256) (s d : Fin 64) :
    (after hostOps0_1 (after hostOps0 (launchContents m c)) (Proc.devRef .tc main_v84) : FVec Ideal S2x4x256x64x64 .f32) (ix5 b h n s d) = ks (X m c) b h (64 * n + s) d := by
  rw [keep1 _ _ (by decide +kernel)]; exact u84 _ b h n s d
theorem k85 (c : Dev nD) (b : Fin 2) (h : Fin 4) (n : Fin 256) (s : Fin 64) (e : Fin 128) :
    (after hostOps0_1 (after hostOps0 (launchContents m c)) (Proc.devRef .tc main_v85) : FVec Ideal S2x4x256x64x128 .f32) (ix5 b h n s e) = vs (X m c) b h (64 * n + s) e := by
  rw [keep1 _ _ (by decide +kernel)]; exact u85 _ b h n s e
theorem e0 (c : Dev nD) (b : Fin 2) (h : Fin 4) (n : Fin 256) (d : Fin 64) (e : Fin 128) :
    (entryContents preI m c (Proc.devRef .tc main_v128_0) : FVec Ideal S256x2x4x64x128 .f32) (ix5 n b h d e) = ustep (X m c) b h d e n := by
  rw [entry]; exact u121 (X m c) _ (k84 m c) (k85 m c) (k82 m c) (k86 m c) b h n d e
theorem e1 (c : Dev nD) (h : Fin 4) : (entryContents preI m c (Proc.devRef .tc main_v128_1) : FVec Ideal S4x1x1 .f32) (ix3 h 0 0) = gch h := by
  rw [entry]; exact u1281 (X m c) _ (k82 m c) h
theorem e108 (c : Dev nD) (b : Fin 2) (h : Fin 4) (n : Fin 256) (s : Fin 64) (e : Fin 128) :
    (entryContents preI m c (Proc.devRef .tc main_v108) : FVec Ideal S2x4x256x64x128 .f32) (ix5 b h n s e) = inner (X m c) b h (64 * n + s) e := by
  rw [entry]; exact u108 (X m c) _ (k83 m c) (k84 m c) (k85 m c) (fun h i j => u102 _ h i j) b h n s e

theorem keepC (W : Valuation τ sig (Elt Ideal)) (r : Ref sig .tc) (h : r ∉ condOps_W) : after condOps W (Proc.devRef .tc r) = W (Proc.devRef .tc r) :=
  after_of_writes_sub condOps _ condOps_writes h

theorem a0 (c : Dev nD) : ∀ k, atK m k c (Proc.devRef .tc main_v128_0) = entryContents preI m c (Proc.devRef .tc main_v128_0)
  | 0 => rfl
  | k + 1 => ((trip_main_v128_0 (after condOps (atK m k c))).trans (keepC _ _ (by decide +kernel))).trans (a0 c k)
theorem a1 (c : Dev nD) : ∀ k, atK m k c (Proc.devRef .tc main_v128_1) = entryContents preI m c (Proc.devRef .tc main_v128_1)
  | 0 => rfl
  | k + 1 => ((trip_main_v128_1 (after condOps (atK m k c))).trans (keepC _ _ (by decide +kernel))).trans (a1 c k)

/-- Before the `k`-th trip the loop holds the state before chunk `k`. -/
theorem a3 (c : Dev nD) : ∀ k, k ≤ 256 → ∀ (b : Fin 2) (h : Fin 4) (d : Fin 64) (e : Fin 128),
    (atK m k c (Proc.devRef .tc main_v128_3) : FVec Ideal S2x4x64x128 .f32) (ix4 b h d e) = state (X m c) b h d e k
  | 0, _, b, h, d, e => u1283 _ b h d e
  | k + 1, hk, b, h, d, e => by
    refine (t3 (after condOps (atK m k c)) k (by omega) ?_ b h d e (gch h) (state (X m c) b h d e k) (ustep (X m c) b h d e k) ?_ ?_ ?_).trans rfl
    · rw [keepC _ _ (by decide +kernel)]; exact atK_ctr m c k
    · rw [keepC _ _ (by decide +kernel), a1]; exact e1 m c h
    · rw [keepC _ _ (by decide +kernel)]; exact a3 c k (by omega) b h d e
    · rw [keepC _ _ (by decide +kernel), a0]; exact e0 m c b h ⟨k, by omega⟩ d e

/-- Before the `k`-th trip the stacked states hold the states before the first `k` chunks. -/
theorem a4 (c : Dev nD) : ∀ k, k ≤ 256 → ∀ (n : Fin 256) (b : Fin 2) (h : Fin 4) (d : Fin 64) (e : Fin 128), n.val < k →
    (atK m k c (Proc.devRef .tc main_v128_4) : FVec Ideal S256x2x4x64x128 .f32) (ix5 n b h d e) = state (X m c) b h d e n
  | 0, _, n, b, h, d, e, hn => absurd hn (Nat.not_lt_zero _)
  | k + 1, hk, n, b, h, d, e, hn => by
    refine (t4 (after condOps (atK m k c)) k (by omega) (by rw [keepC _ _ (by decide +kernel)]; exact atK_ctr m c k) b h n d e).trans ?_
    rw [keepC _ _ (by decide +kernel), keepC _ _ (by decide +kernel)]
    split
    next hk' => rw [hk']; exact a3 m c k (by omega) b h d e
    next hk' => exact a4 c k (by omega) n b h d e (by omega)

theorem keep3 (W : Valuation τ sig (Elt Ideal)) : after hostOps0_3 W (Proc.devRef .tc main_v4) = W (Proc.devRef .tc main_v4) := by
  after_reads_simp

theorem eArg1 (c : Dev nD) : entryContents preI m c (Proc.devRef .tc main_arg1) = m ((c : Thread nD τ).loc main_arg1) := by
  rw [entry, keep2 _ _ (by decide +kernel), keep1 _ _ (by decide +kernel)]
  exact after_of_writes_sub hostOps0 _ hostOps0_writes (by decide +kernel)

theorem keepE (c : Dev nD) (K : ℕ) (r : Ref sig .tc)
    (hr : r ∉ condOps_W ∧ r ∉ while0Ops0_W ∧ r ∉ while0Ops0_1_W ∧ r ∉ while0Ops0_2_W ∧ r ∉ while0Ops0_3_W) :
    after condOps (atK m K c) (Proc.devRef .tc r) = entryContents preI m c (Proc.devRef .tc r) :=
  (keepC _ _ hr.1).trans (keepK m c r hr K)

/-- The result after the loop, when it has run as many trips as there are chunks. -/
theorem final' (c : Dev nD) (K : ℕ) (hK : K = 256) (P : Fin 32768) (f : Fin 512) :
    (after hostOps0_5 (after hostOps0_4 (after hostOps0_3 (after condOps (atK m K c)))) (Proc.devRef .tc main_v168) : FVec Ideal S32768x512 .bf16) (ix2 P f)
      = res (X m c) (m ((c : Thread nD τ).loc main_arg1)) P f := by
  have h164 := u164 (X m c) (after condOps (atK m K c)) (m ((c : Thread nD τ).loc main_arg1)) (fun b h n s e => inner (X m c) b h (64 * n + s) e)
    (fun b h n s e => by rw [keepE m c K _ (by decide +kernel)]; exact e108 m c b h n s e)
    (fun b h n s d => by rw [keepE m c K _ (by decide +kernel)]; exact e83 m c b h n s d)
    (fun h => by rw [keepE m c K _ (by decide +kernel)]; exact e82 m c h)
    (fun s => by rw [keepE m c K _ (by decide +kernel)]; exact e86 m c s)
    (fun n b h d e => state (X m c) b h d e n)
    (fun n b h d e => by rw [keepC _ _ (by decide +kernel)]; exact a4 m c K (by omega) n b h d e (by omega))
    ((keepE m c K _ (by decide +kernel)).trans (eArg1 m c))
    ⟨P.val / 16384, by omega⟩ ⟨P.val % 16384, by omega⟩ f
  refine (u168 _ P f _ (xat (X m c) (P.val / 16384) (P.val % 16384) (2560 + f)) h164 ?_).trans ?_
  · rw [keep3, keepE m c K _ (by decide +kernel)]
    exact e4 m c ⟨P.val / 16384, by omega⟩ ⟨P.val % 16384, by omega⟩ f
  · rw [res]
    have hp : 64 * (P.val % 16384 / 64) + P.val % 16384 % 64 = P.val % 16384 := by omega
    simp only [hp, inner, oret, Nat.mod_eq_of_lt f.isLt]

/-- The reference's result. -/
theorem final (c : Dev nD) (P : Fin 32768) (f : Fin 512) :
    (finalContents condOps preI bodyI postI 256 m c (Proc.devRef .tc main_v168) : FVec Ideal S32768x512 .bf16) (ix2 P f)
      = res (X m c) (m ((c : Thread nD τ).loc main_arg1)) P f :=
  final' m c 256 rfl P f

end Cert.RetRef

end
-- ==== Proof.RetRun.lean ====
module

public import proofs.«01_k».proof.Proof.RetRef
public import Idealize.ShloMosaic.Lib.Quiescent

@[expose] public section

set_option maxRecDepth 65536

noncomputable section

namespace Cert.RetRef

open Idealize.ShloMosaic Idealize.ShloMosaic.TcCoe Idealize.SL.Sem Idealize.ShloMosaic.StableHlo
open Cert.ReferenceIdeal Cert.ReferenceIdeal.Gen Cert.ReferenceIdeal.Value

variable (m : (ℓ : Loc nD τ sig) → Buf (Elt Ideal) ℓ)

/-- The operations after the loop leave the first argument. -/
theorem last0 (W : Valuation τ sig (Elt Ideal)) :
    after hostOps0_5 (after hostOps0_4 (after hostOps0_3 W)) (Proc.devRef .tc main_arg0) = W (Proc.devRef .tc main_arg0) := by
  after_reads_simp

/-- And the second one. -/
theorem last1 (W : Valuation τ sig (Elt Ideal)) :
    after hostOps0_5 (after hostOps0_4 (after hostOps0_3 W)) (Proc.devRef .tc main_arg1) = W (Proc.devRef .tc main_arg1) := by
  after_reads_simp

theorem eArg0 (c : Dev nD) : entryContents preI m c (Proc.devRef .tc main_arg0) = m ((c : Thread nD τ).loc main_arg0) := by
  rw [entry, keep2 _ _ (by decide +kernel), keep1 _ _ (by decide +kernel)]
  exact after_of_writes_sub hostOps0 _ hostOps0_writes (by decide +kernel)

theorem arg0' (c : Dev nD) (K : ℕ) : after hostOps0_5 (after hostOps0_4 (after hostOps0_3 (after condOps (atK m K c)))) (Proc.devRef .tc main_arg0)
    = m ((c : Thread nD τ).loc main_arg0) := by
  rw [last0, keepE m c K _ (by decide +kernel), eArg0]

theorem arg1' (c : Dev nD) (K : ℕ) : after hostOps0_5 (after hostOps0_4 (after hostOps0_3 (after condOps (atK m K c)))) (Proc.devRef .tc main_arg1)
    = m ((c : Thread nD τ).loc main_arg1) := by
  rw [last1, keepE m c K _ (by decide +kernel), eArg1]

/-- The reference's run: its result, its arguments unchanged, its counters at zero. -/
theorem run (ρ : Dev nD → PrngReg) : θ_run defs (onTc (τ := τ) (main (F := Ideal))) ⟨m, fun _ => 0, ρ⟩ (fun r => ∀ c : Dev nD,
    r.2.mem ((c.tc : Thread nD τ).loc main_v168) = (fun j => Cert.Ret.res (X m c) (m ((c.tc : Thread nD τ).loc main_arg1)) (j 0).val (j 1).val : FVec Ideal S32768x512 .bf16)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c main_v168 rfl).trans (by funext j; idx_vars j; exact final m c j0 j1),
    (h c main_arg0 rfl).trans (arg0' m c 256), (h c main_arg1 rfl).trans (arg1' m c 256)⟩) (run_fold m ρ)

/-- The reference's frame. -/
theorem frame (ρ : Dev nD → PrngReg) : θ_run defs (onTc (τ := τ) (main (F := Ideal))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems rfl _⟩) (run m ρ)

end Cert.RetRef

end
-- ==== Proof.Proj.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Proj

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- The product the reference computes. -/
abbrev prod (x : FVec Ideal S32768x1024 .f32) (w : FVec Ideal S1024x3072 .f32) : FVec Ideal S32768x3072 .f32 :=
  Host.dotGeneral Cert.Reference4Ideal.dot_S32768x1024_S1024x3072_S32768x3072_1_0_0_1_n_n none x w

theorem idx : ∀ t : Fin cfg0.N, win0_0.index t = ![t.val, 0] ∧ win0_1.index t = ![0, 0] ∧ win0_2.index t = ![t.val, 0] :=
  (by decide +kernel : ∀ t : Fin grid0.N, _)

/-- One block of rows of the product. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proj

end
-- ==== Proof.ExpPre.lean ====
/- The experts' blocks lie inside the weights: the precondition says that every word of the block table is one of the eight
   experts. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Pre_experts_in_range
public import Idealize.ShloMosaic.Lib.StableHlo.Predicate

@[expose] public section

set_option maxRecDepth 16384

noncomputable section

namespace Cert.Exp

open Idealize.ShloMosaic Idealize.ShloMosaic.TcCoe

variable {F : FTy → Type} [FloatOps F]

/-- A word that the precondition's comparisons admit is below 8. -/
theorem word_lt (v : BitVec 32) (e : IntOp.andi (IntOp.cmpi .sge v 0#32) (IntOp.cmpi .slt v 8#32) = 1#1) : v.toNat < 8 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Every word of an admitted table is below 8. -/
theorem table_lt (e : IVec Cert.Pre_experts_in_range.S136 32) (a b c d)
    (h : Cert.Pre_experts_in_range.fn (F := F) e a b c d = fun _ => 1#1) (x : Cert.Pre_experts_in_range.S136.Idx) : (e x).toNat < 8 := by
  have e' := congrFun h x
  simp only [Cert.Pre_experts_in_range.fn, andi, cmpi, broadcastInDim, constantI] at e'
  exact word_lt _ e'

section
open Cert.Kernel2 Cert.Kernel2.Gen

/-- Where every word is below 8 the kernel's blocks lie inside the weights. -/
theorem ok_bits (pf : pre0.Contents (Elt F)) (hw : ∀ x, (pf 0 x : BitVec 32).toNat < 8) : Cert.Kernel2.ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have h1 : (i 1).val < 2 := (i 1).isLt
    fin_cases a
    · exact Nat.mul_le_mul_right 1 (hw _)
    all_goals
      simp [cc0_transform_1, cc0_transform_2, cc0_transform_3, BitVec.toNat_ofNat]
    all_goals omega

theorem ok_pre (m : (ℓ : Loc nD τ sig) → Buf (Elt Bits) ℓ) (h : Cert.Pre_Kernel2 m) : Ok (F := Bits) m :=
  ok_bits _ fun x => table_lt _ _ _ _ _ (h 0) x
end

section
open Cert.Kernel2Ideal Cert.Kernel2Ideal.Gen

/-- The same for the kernel's ideal form. -/
theorem ok_ideal (pf : pre0.Contents (Elt F)) (hw : ∀ x, (pf 0 x : BitVec 32).toNat < 8) : Cert.Kernel2Ideal.ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have h1 : (i 1).val < 2 := (i 1).isLt
    fin_cases a
    · exact Nat.mul_le_mul_right 1 (hw _)
    all_goals
      simp [cc0_transform_1, cc0_transform_2, cc0_transform_3, BitVec.toNat_ofNat]
    all_goals omega

theorem ok_preIdeal (m : (ℓ : Loc nD τ sig) → Buf (Elt Ideal) ℓ) (h : Cert.Pre_Kernel2Ideal m) : Ok (F := Ideal) m :=
  ok_ideal _ fun x => table_lt _ _ _ _ _ (h 0) x
end

end Cert.Exp

end
-- ==== Proof.ExpRef.lean ====
/- The experts' reference, element by element. -/
module

public import proofs.«01_k».proof.Proof.Gen.Reference2Ideal
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Exp

open Idealize.ShloMosaic Idealize.ShloMosaic.TcCoe Idealize.SL.Sem
open Cert.Reference2Ideal Cert.Reference2Ideal.Gen

/-- The expert of a row: the word of its block of 512 rows. -/
def expert (e : IVec S136 32) (P : ℕ) : Fin 8 := ⟨(e (ix1 ⟨P / 512 % 136, Nat.mod_lt _ (by decide)⟩)).toNat % 8, Nat.mod_lt _ (by decide)⟩

/-- A hidden unit before the gate. -/
def hid (x : FVec Ideal S69632x1024 .bf16) (w : FVec Ideal S8x1024x3584 .bf16) (g : Fin 8) (P : Fin 69632) (f : Fin 3584) : EReal :=
  ∑ k : Fin 1024, x (ix2 P k) * w (ix3 g k f)

/-- The gate's sigmoid weighting. -/
def silu (h : EReal) : EReal := h * Ideal.div 1 (1 + Ideal.exp (-h))

section
variable (e : IVec S136 32) (x : FVec Ideal S69632x1024 .bf16) (w1 w3 : FVec Ideal S8x1024x3584 .bf16) (w2 : FVec Ideal S8x3584x1024 .bf16)

/-- One term of a row's result: a hidden unit times its weight. -/
def term (g : Fin 8) (P : Fin 69632) (d : Fin 1024) (f : Fin 3584) : EReal :=
  silu (hid x w1 g P f) * hid x w3 g P f * w2 (ix3 g f d)

/-- The experts' result. -/
def res (P : Fin 69632) (d : Fin 1024) : EReal := ∑ f : Fin 3584, term x w1 w3 w2 (expert e P) P d f

/-- The start indices of each block's weights. -/
def starts (A B : BitVec 32) : IVec S544x3 32 :=
  ((concatenate S544x3 1 [⟨S544x1, ((broadcastInDim S544x1 ![0] bcast_S544_S544x1_0 (select (cmpi .slt (shapeCast _ (broadcastInDim S136x4 ![0] bcast_S136_S136x4_0 e) shapeCasts_S136x4_S544) (broadcastInDim S544 ![] bcast_S_S544 (constantI S_ 32 0#32))) (addi (shapeCast _ (broadcastInDim S136x4 ![0] bcast_S136_S136x4_0 e) shapeCasts_S136x4_S544) (broadcastInDim S544 ![] bcast_S_S544 (constantI S_ 32 8#32))) (shapeCast _ (broadcastInDim S136x4 ![0] bcast_S136_S136x4_0 e) shapeCasts_S136x4_S544))) : (⟨S544x1, .i32⟩ : BufTy).Contents (Elt Ideal))⟩, ⟨S544x1, ((broadcastInDim S544x1 ![] bcast_S_S544x1 (select (cmpi .slt (constantI S_ 32 0#32) (constantI S_ 32 0#32)) (addi (constantI S_ 32 0#32) (constantI S_ 32 A)) (constantI S_ 32 0#32))) : (⟨S544x1, .i32⟩ : BufTy).Contents (Elt Ideal))⟩, ⟨S544x1, ((broadcastInDim S544x1 ![] bcast_S_S544x1 (select (cmpi .slt (constantI S_ 32 0#32) (constantI S_ 32 0#32)) (addi (constantI S_ 32 0#32) (constantI S_ 32 B)) (constantI S_ 32 0#32))) : (⟨S544x1, .i32⟩ : BufTy).Contents (Elt Ideal))⟩] concatenates_S544x1_S544x1_S544x1_S544x3_d1 : (⟨S544x3, .i32⟩ : BufTy).Contents (Elt Ideal)))

/-- Each block's weights. -/
def blkA (w : FVec Ideal S8x1024x3584 .bf16) : FVec Ideal S544x1x1024x3584 .bf16 :=
  Host.gather gather_S8x1024x3584_S544x3_S544x1x1024x3584_123_n_n_n_012_1_110243584 w (starts e 1024#32 3584#32)

def blkB : FVec Ideal S544x1x3584x1024 .bf16 :=
  Host.gather gather_S8x3584x1024_S544x3_S544x1x3584x1024_123_n_n_n_012_1_135841024 w2 (starts e 3584#32 1024#32)

/-- The hidden units of the blocks. -/
def hidA (w : FVec Ideal S544x1x1024x3584 .bf16) : FVec Ideal S544x128x3584 .f32 :=
  Host.dotGeneral dot_S544x128x1024_S544x1024x3584_S544x128x3584_2_1_1_2_0_0 none (extf .f32 (shapeCast _ x shapeCasts_S69632x1024_S544x128x1024) bitsLt_bf16_f32) (extf .f32 (shapeCast _ w shapeCasts_S544x1x1024x3584_S544x1024x3584) bitsLt_bf16_f32)

def actA (a b : FVec Ideal S544x1x1024x3584 .bf16) : FVec Ideal S544x128x3584 .f32 :=
  mulf (mulf (hidA x a) (Host.divf (broadcastInDim S544x128x3584 ![] bcast_S_S544x128x3584 (constant S_ .f32 0x3F800000#32)) (addf (broadcastInDim S544x128x3584 ![] bcast_S_S544x128x3584 (constant S_ .f32 0x3F800000#32)) (Host.exp (Host.negf (hidA x a)))))) (hidA x b)

def outA (a : FVec Ideal S544x128x3584 .f32) (w : FVec Ideal S544x1x3584x1024 .bf16) : FVec Ideal S69632x1024 .bf16 :=
  truncf .bf16 (shapeCast _ (Host.dotGeneral dot_S544x128x3584_S544x3584x1024_S544x128x1024_2_1_1_2_0_0 none a (extf .f32 (shapeCast _ w shapeCasts_S544x1x3584x1024_S544x3584x1024) bitsLt_bf16_f32)) shapeCasts_S544x128x1024_S69632x1024) bitsLt_bf16_f32

end

section
variable (e : IVec S136 32) (he : ∀ i, (e i).toNat < 8)
include he

theorem starts0 (A B : BitVec 32) (b : Fin 544) : starts e A B (ix2 b 0) = e (ix1 ⟨b.val / 4, by omega⟩) := by
  pointwise [starts]
  have h : ∀ v : BitVec 32, v.toNat < 8 → Scalar.select (IntOp.cmpi .slt v 0#32) (IntOp.addi v 8#32) v = v := by
    intro v hv
    obtain ⟨n, hn, rfl⟩ : ∃ n < 8, v = BitVec.ofNat 32 n := ⟨v.toNat, hv, by simp⟩
    revert n; decide
  exact h _ (he _)

theorem starts1 (A B : BitVec 32) (b : Fin 544) : starts e A B (ix2 b 1) = 0#32 := by
  pointwise [starts]
  rfl

theorem starts2 (A B : BitVec 32) (b : Fin 544) : starts e A B (ix2 b 2) = 0#32 := by
  pointwise [starts]
  rfl
end

/-- A block of the weights read at an element: the expert that the block's start index names. -/
theorem gatherA (w : FVec Ideal S8x1024x3584 .bf16) (idx : IVec S544x3 32) (b : Fin 544) (h1 : idx (ix2 b 1) = 0#32) (h2 : idx (ix2 b 2) = 0#32)
    (j : Fin 1024) (k : Fin 3584) :
    Host.gather gather_S8x1024x3584_S544x3_S544x1x1024x3584_123_n_n_n_012_1_110243584 w idx (ix4 b 0 j k)
      = w (ix3 ⟨min (idx (ix2 b 0)).toInt.toNat 7, by omega⟩ j k) := by
  unfold Host.gather
  congr 1
  funext a
  refine Fin.ext ?_
  have hb := GatherDims.batchCoord_eq_zero gather_S8x1024x3584_S544x3_S544x1x1024x3584_123_n_n_n_012_1_110243584 (ix4 b 0 j k) a List.not_mem_nil
  show GatherDims.start _ _ idx a + GatherDims.batchCoord _ _ a + GatherDims.offCoord _ _ a = _
  rw [hb, Nat.add_zero]
  have hs : ∀ (a : Fin 3), GatherDims.start gather_S8x1024x3584_S544x3_S544x1x1024x3584_123_n_n_n_012_1_110243584 (ix4 b 0 j k) idx a
      = min (idx (ix2 b a)).toInt.toNat (S8x1024x3584.size a - (![1, 1024, 3584] : Fin 3 → ℕ) a) := by
    intro a
    unfold GatherDims.start
    fin_cases a
    all_goals
      rw [dif_pos (by decide)]
      refine congrArg (fun i => min (idx i).toInt.toNat _) (funext fun q => Fin.ext ?_)
      fin_cases q <;> rfl
  rw [hs a]
  fin_cases a
  · exact Nat.add_zero _
  · show min (idx (ix2 b 1)).toInt.toNat _ + _ = _
    rw [h1]; exact Nat.zero_add _
  · show min (idx (ix2 b 2)).toInt.toNat _ + _ = _
    rw [h2]; exact Nat.zero_add _

theorem gatherB (w : FVec Ideal S8x3584x1024 .bf16) (idx : IVec S544x3 32) (b : Fin 544) (h1 : idx (ix2 b 1) = 0#32) (h2 : idx (ix2 b 2) = 0#32)
    (j : Fin 3584) (k : Fin 1024) :
    Host.gather gather_S8x3584x1024_S544x3_S544x1x3584x1024_123_n_n_n_012_1_135841024 w idx (ix4 b 0 j k)
      = w (ix3 ⟨min (idx (ix2 b 0)).toInt.toNat 7, by omega⟩ j k) := by
  unfold Host.gather
  congr 1
  funext a
  refine Fin.ext ?_
  have hb := GatherDims.batchCoord_eq_zero gather_S8x3584x1024_S544x3_S544x1x3584x1024_123_n_n_n_012_1_135841024 (ix4 b 0 j k) a List.not_mem_nil
  show GatherDims.start _ _ idx a + GatherDims.batchCoord _ _ a + GatherDims.offCoord _ _ a = _
  rw [hb, Nat.add_zero]
  have hs : ∀ (a : Fin 3), GatherDims.start gather_S8x3584x1024_S544x3_S544x1x3584x1024_123_n_n_n_012_1_135841024 (ix4 b 0 j k) idx a
      = min (idx (ix2 b a)).toInt.toNat (S8x3584x1024.size a - (![1, 3584, 1024] : Fin 3 → ℕ) a) := by
    intro a
    unfold GatherDims.start
    fin_cases a
    all_goals
      rw [dif_pos (by decide)]
      refine congrArg (fun i => min (idx i).toInt.toNat _) (funext fun q => Fin.ext ?_)
      fin_cases q <;> rfl
  rw [hs a]
  fin_cases a
  · exact Nat.add_zero _
  · show min (idx (ix2 b 1)).toInt.toNat _ + _ = _
    rw [h1]; exact Nat.zero_add _
  · show min (idx (ix2 b 2)).toInt.toNat _ + _ = _
    rw [h2]; exact Nat.zero_add _

theorem hidA_at (x : FVec Ideal S69632x1024 .bf16) (w : FVec Ideal S544x1x1024x3584 .bf16) (b : Fin 544) (r : Fin 128) (f : Fin 3584) :
    hidA x w (ix3 b r f) = ∑ k : Fin 1024, x (ix2 ⟨b * 128 + r, by omega⟩ k) * w (ix4 b 0 k f) := by
  pointwise [hidA]

theorem actA_at (x : FVec Ideal S69632x1024 .bf16) (a b : FVec Ideal S544x1x1024x3584 .bf16) (i : Fin 544) (r : Fin 128) (f : Fin 3584) :
    actA x a b (ix3 i r f) = silu (hidA x a (ix3 i r f)) * hidA x b (ix3 i r f) := by
  pointwise [actA, silu]

theorem outA_at (a : FVec Ideal S544x128x3584 .f32) (w : FVec Ideal S544x1x3584x1024 .bf16) (P : Fin 69632) (d : Fin 1024) :
    outA a w (ix2 P d) = ∑ f : Fin 3584, a (ix3 ⟨P.val / 128, by omega⟩ ⟨P.val % 128, by omega⟩ f) * w (ix4 ⟨P.val / 128, by omega⟩ 0 f d) := by
  pointwise [outA]

theorem res_main (m : (ℓ : Loc nD τ sig) → Buf (Elt Ideal) ℓ) (c : Dev nD) : Cert.Reference2Ideal.Value.res_main_v64 m c
    = outA (actA (m ((c.tc : Thread nD τ).loc main_arg1)) (blkA (m ((c.tc : Thread nD τ).loc main_arg0)) (m ((c.tc : Thread nD τ).loc main_arg2))) (blkA (m ((c.tc : Thread nD τ).loc main_arg0)) (m ((c.tc : Thread nD τ).loc main_arg3))))
      (blkB (m ((c.tc : Thread nD τ).loc main_arg0)) (m ((c.tc : Thread nD τ).loc main_arg4))) := rfl

section
variable (e : IVec S136 32) (he : ∀ i, (e i).toNat < 8)
include he

/-- A block's clamped start index is the expert of its rows. -/
theorem clamp (A B : BitVec 32) (P : Fin 69632) :
    min (starts e A B (ix2 ⟨P.val / 128, by omega⟩ 0)).toInt.toNat 7 = (expert e P).val := by
  rw [starts0 e he]
  have h := he (ix1 ⟨P.val / 512 % 136, Nat.mod_lt _ (by decide)⟩)
  have hi : (⟨P.val / 128 / 4, by omega⟩ : Fin 136) = ⟨P.val / 512 % 136, Nat.mod_lt _ (by decide)⟩ := Fin.ext (by simp only []; omega)
  rw [show (ix1 (⟨P.val / 128 / 4, by omega⟩ : Fin 136)) = ix1 ⟨P.val / 512 % 136, Nat.mod_lt _ (by decide)⟩ from congrArg ix1 hi]
  simp only [expert, BitVec.toInt_eq_toNat_cond]
  split <;> omega

theorem blkA_at (w : FVec Ideal S8x1024x3584 .bf16) (P : Fin 69632) (j : Fin 1024) (k : Fin 3584) :
    blkA e w (ix4 ⟨P.val / 128, by omega⟩ 0 j k) = w (ix3 (expert e P) j k) := by
  rw [blkA, gatherA _ _ _ (starts1 e he _ _ _) (starts2 e he _ _ _)]
  exact congrArg (fun g => w (ix3 g j k)) (Fin.ext (clamp e he _ _ P))

theorem blkB_at (w : FVec Ideal S8x3584x1024 .bf16) (P : Fin 69632) (j : Fin 3584) (k : Fin 1024) :
    blkB e w (ix4 ⟨P.val / 128, by omega⟩ 0 j k) = w (ix3 (expert e P) j k) := by
  rw [blkB, gatherB _ _ _ (starts1 e he _ _ _) (starts2 e he _ _ _)]
  exact congrArg (fun g => w (ix3 g j k)) (Fin.ext (clamp e he _ _ P))

/-- The reference's result. -/
theorem ref_at (x : FVec Ideal S69632x1024 .bf16) (w1 w3 : FVec Ideal S8x1024x3584 .bf16) (w2 : FVec Ideal S8x3584x1024 .bf16) (P : Fin 69632) (d : Fin 1024) :
    outA (actA x (blkA e w1) (blkA e w3)) (blkB e w2) (ix2 P d) = res e x w1 w3 w2 P d := by
  rw [outA_at, res]
  refine Finset.sum_congr rfl fun f _ => ?_
  rw [actA_at, hidA_at, hidA_at, term, hid, hid, blkB_at e he]
  have hP : (⟨P.val / 128 * 128 + P.val % 128, by omega⟩ : Fin 69632) = P := Fin.ext (by simp only []; omega)
  simp only [blkA_at e he, hP]

theorem ref_eq (x : FVec Ideal S69632x1024 .bf16) (w1 w3 : FVec Ideal S8x1024x3584 .bf16) (w2 : FVec Ideal S8x3584x1024 .bf16) :
    outA (actA x (blkA e w1) (blkA e w3)) (blkB e w2) = fun j => res e x w1 w3 w2 (j 0) (j 1) := by
  funext j; idx_vars j
  exact ref_at e he x w1 w3 w2 j0 j1
end

end Cert.Exp

end
-- ==== Proof.ExpTile.lean ====
/- The experts' kernel, tile by tile. -/
module

public import proofs.«01_k».proof.Proof.ExpRef
public import proofs.«01_k».proof.Proof.Gen.Kernel2Ideal
public import proofs.«01_k».proof.Proof.Gen.Kernel2Ideal.Frame
public import Idealize.ShloMosaic.Lib.Pipeline.ReadBack

@[expose] public section

set_option maxRecDepth 16384

noncomputable section

namespace Cert.Exp

open Idealize.ShloMosaic Idealize.ShloMosaic.TcCoe Idealize.SL.Sem
open Idealize.ShloMosaic.Pipeline (Dat)
open Cert.Kernel2Ideal Cert.Kernel2Ideal.Gen

/-- The sum over half the hidden units of one expert, from the blocks of its weights. -/
def half (x : Fin 1024 → EReal) (a b : FVec Ideal S1x1024x1792 .bf16) (w : FVec Ideal S1x1792x1024 .bf16) (d : Fin 1024) : EReal :=
  ∑ f : Fin 1792, silu (∑ k : Fin 1024, x k * a (ix3 0 k f)) * (∑ k : Fin 1024, x k * b (ix3 0 k f)) * w (ix3 0 f d)

theorem pay10_at (a b : FVec Ideal S1x1024x1792 .bf16) (w : FVec Ideal S1x1792x1024 .bf16) (x : FVec Ideal S256x1024 .bf16) (r : Fin 256) (d : Fin 1024) :
    k0_pay10 (F := Ideal) a b w x (ix2 r d) = half (fun k => x (ix2 r k)) a b w d := by
  pointwise [k0_pay10, k0_pay7, k0_pay8, k0_pay9, half, silu]
  simp only [zero_sub]

theorem pay1_at (a b : FVec Ideal S1x1024x1792 .bf16) (w : FVec Ideal S1x1792x1024 .bf16) (x : FVec Ideal S256x1024 .bf16) (r : Fin 256) (d : Fin 1024) :
    k0_pay1 (F := Ideal) (k0_pay9 w) (k0_pay11 a b x) (constant S256x1024 .f32 0x00000000#32) (ix2 r d) = half (fun k => x (ix2 r k)) a b w d := by
  pointwise [k0_pay1, k0_pay11, k0_pay7, k0_pay8, k0_pay9, half, silu]
  simp only [zero_sub]

variable (m : (ℓ : Loc nD τ sig) → Buf (Elt Ideal) ℓ) (hO : Ok m)

/-- The block table. -/
abbrev tab : IVec S136 32 := m (((0 : Dev nD) : Thread nD τ).loc main_arg0)

theorem ltN (t : Fin (cfgM m hO).N) : t.val < 272 := lt_of_lt_of_eq t.isLt (show (cfgM m hO).N = 272 from N_0)

theorem co (t : Fin grid0.N) : (grid0.coords t 0).val = t.val / 2 ∧ (grid0.coords t 1).val = t.val % 2 := by
  have ht : t.val < 272 := Nat.lt_of_lt_of_eq t.isLt N_0
  have e0 : (grid0.coords t 0).val = t.val / 2 % 136 := Pipeline.Grid.coords_val t 0 (by decide) rfl
  have e1 : (grid0.coords t 1).val = t.val / 1 % 2 := Pipeline.Grid.coords_val t 1 (by decide) rfl
  exact ⟨by omega, by omega⟩

/-- The block table's word at a grid point. -/
theorem word (t : Fin grid0.N) (inb) :
    (tbl m).at 0 (Rect.unit (s := S136) ![(Scalar.indexCast (BitVec.ofNat 32 (grid0.coords t 0).val)).toNat] S1.size inb) numel1_S1
      = tab m (ix1 ⟨t.val / 2 % 136, Nat.mod_lt _ (by decide)⟩) := by
  have ht : t.val < 272 := Nat.lt_of_lt_of_eq t.isLt N_0
  refine congrArg (tab m) (funext fun a => Fin.ext ?_)
  fin_cases a
  have h : (Scalar.indexCast (BitVec.ofNat 32 (grid0.coords t 0).val)).toNat = t.val / 2 % 136 := by
    rw [(co t).1]
    simp [Scalar.indexCast, BitVec.toNat_ofNat]
    omega
  refine Eq.trans (b := _ + 1 * 0) rfl ?_
  exact h

/-- Which block each window holds at a grid point. -/
theorem idx (t : Fin (cfgM m hO).N) : ((cfgM m hO).win 0).index t = ![t.val / 2, 0]
    ∧ ((cfgM m hO).win 1).index t = ![(tab m (ix1 ⟨t.val / 2 % 136, Nat.mod_lt _ (by decide)⟩)).toNat, 0, t.val % 2]
    ∧ ((cfgM m hO).win 2).index t = ![(tab m (ix1 ⟨t.val / 2 % 136, Nat.mod_lt _ (by decide)⟩)).toNat, 0, t.val % 2]
    ∧ ((cfgM m hO).win 3).index t = ![(tab m (ix1 ⟨t.val / 2 % 136, Nat.mod_lt _ (by decide)⟩)).toNat, t.val % 2, 0]
    ∧ ((cfgM m hO).win 4).index t = ![t.val / 2, 0] := by
  have ht := ltN m hO t
  have e : (BitVec.ofNat 32 (t.val / 2)).toNat = t.val / 2 := by rw [BitVec.toNat_ofNat]; omega
  have e' : (BitVec.ofNat 32 (t.val % 2)).toNat = t.val % 2 := by rw [BitVec.toNat_ofNat]; omega
  refine ⟨?_, ?_, ?_, ?_, ?_⟩
  · show cc0_transform_0 (grid0.coords t) = _
    unfold cc0_transform_0; simp only [(co t).1, (co t).2]; rw [e]; rfl
  · show cc0_transform_1 k0_off1_inb numel1_S1 (tbl m) (grid0.coords t) = _
    unfold cc0_transform_1
    have h := word m t (k0_off1_inb (grid0.coords t))
    simp only [h, (co t).2, e']; rfl
  · show cc0_transform_2 k0_off1_inb numel1_S1 (tbl m) (grid0.coords t) = _
    unfold cc0_transform_2
    have h := word m t (k0_off1_inb (grid0.coords t))
    simp only [h, (co t).2, e']; rfl
  · show cc0_transform_3 k0_off1_inb numel1_S1 (tbl m) (grid0.coords t) = _
    unfold cc0_transform_3
    have h := word m t (k0_off1_inb (grid0.coords t))
    simp only [h, (co t).2, e']; rfl
  · show cc0_transform_4 (grid0.coords t) = _
    unfold cc0_transform_4; simp only [(co t).1, (co t).2]; rw [e]; rfl

/-- The arguments. -/
abbrev aX (c : Dev nD) : FVec Ideal S69632x1024 .bf16 := m ((c : Thread nD τ).loc main_arg1)
abbrev aW1 (c : Dev nD) : FVec Ideal S8x1024x3584 .bf16 := m ((c : Thread nD τ).loc main_arg2)
abbrev aW3 (c : Dev nD) : FVec Ideal S8x1024x3584 .bf16 := m ((c : Thread nD τ).loc main_arg3)
abbrev aW2 (c : Dev nD) : FVec Ideal S8x3584x1024 .bf16 := m ((c : Thread nD τ).loc main_arg4)

/-- The expert of a grid point. -/
abbrev exP (t : Fin (cfgM m hO).N) : Fin 8 := expert (tab m) (512 * (t.val / 2))

section
variable (c : Dev nD) (t : Fin (cfgM m hO).N)

theorem blk0 (r : Fin 512) (k : Fin 1024) : (iblk m hO c 0 t : FVec Ideal S512x1024 .bf16) (ix2 r k)
    = aX m c (ix2 ⟨512 * (t.val / 2) + r, by have := ltN m hO t; omega⟩ k) := by
  have ht := ltN m hO t
  blk_ext [iblk, V, idx m hO t]

section
variable (hw : ∀ i, (tab m i).toNat < 8)
include hw

theorem exP_val : (exP m hO t).val = (tab m (ix1 ⟨t.val / 2 % 136, Nat.mod_lt _ (by decide)⟩)).toNat := by
  have h : (512 * (t.val / 2) / 512 % 136) = t.val / 2 % 136 := by omega
  simp only [exP, expert, h]
  exact Nat.mod_eq_of_lt (hw _)

theorem blk1 (k : Fin 1024) (f : Fin 1792) : (iblk m hO c 1 t : FVec Ideal S1x1024x1792 .bf16) (ix3 0 k f)
    = aW1 m c (ix3 (exP m hO t) k ⟨1792 * (t.val % 2) + f, by omega⟩) := by
  have ht := ltN m hO t
  have hv := exP_val m hO t hw
  blk_ext [iblk, V, idx m hO t]

theorem blk2 (k : Fin 1024) (f : Fin 1792) : (iblk m hO c 2 t : FVec Ideal S1x1024x1792 .bf16) (ix3 0 k f)
    = aW3 m c (ix3 (exP m hO t) k ⟨1792 * (t.val % 2) + f, by omega⟩) := by
  have ht := ltN m hO t
  have hv := exP_val m hO t hw
  blk_ext [iblk, V, idx m hO t]

theorem blk3 (f : Fin 1792) (d : Fin 1024) : (iblk m hO c 3 t : FVec Ideal S1x1792x1024 .bf16) (ix3 0 f d)
    = aW2 m c (ix3 (exP m hO t) ⟨1792 * (t.val % 2) + f, by omega⟩ d) := by
  have ht := ltN m hO t
  have hv := exP_val m hO t hw
  blk_ext [iblk, V, idx m hO t]
end
end

/-- What one grid point adds to its rows, from its blocks. -/
def part (x0 : FVec Ideal S512x1024 .bf16) (x1 x2 : FVec Ideal S1x1024x1792 .bf16) (x3 : FVec Ideal S1x1792x1024 .bf16) : FVec Ideal S512x1024 .f32 :=
  fun y => half (fun k => x0 (ix2 (y 0) k)) x1 x2 x3 (y 1)

theorem ldLo (x0 : FVec Ideal S512x1024 .bf16) (inb) (r : Fin 256) (R : Fin 512) (h : R.val = r.val) (k : Fin 1024) :
    View.ld (Val := Elt Ideal) (e' := .bf16) x0 (Rect.unit (s := S512x1024) ![0, 0] ![256, 1024] inb) (ix2 r k) = x0 (ix2 R k) := by
  rw [show R = ⟨r.val, by omega⟩ from Fin.ext h]
  pointwise

theorem ldHi (x0 : FVec Ideal S512x1024 .bf16) (inb) (r : Fin 256) (R : Fin 512) (h : R.val = 256 + r.val) (k : Fin 1024) :
    View.ld (Val := Elt Ideal) (e' := .bf16) x0 (Rect.unit (s := S512x1024) ![256, 0] ![256, 1024] inb) (ix2 r k) = x0 (ix2 R k) := by
  rw [show R = ⟨256 + r.val, by omega⟩ from Fin.ext h]
  pointwise

theorem runA (c : Dev nD) (i : grid0.Coords) (arg3 : Memref sig .tc .vmem S512x1024 .bf16) (harg3 : arg3.IsWhole) (arg4 : Memref sig .tc .vmem S1x1024x1792 .bf16) (harg4 : arg4.IsWhole) (arg5 : Memref sig .tc .vmem S1x1024x1792 .bf16) (harg5 : arg5.IsWhole) (arg6 : Memref sig .tc .vmem S1x1792x1024 .bf16) (harg6 : arg6.IsWhole) (arg7 : Memref sig .tc .vmem S512x1024 .bf16) (harg7 : arg7.IsWhole) (arg8 : Memref sig .tc .vmem S512x1024 .f32) (harg8 : arg8.IsWhole) (hc0 : cond0_0 i) (hc1 : ¬cond0_1 i) (hc2 : ¬cond0_2 i)
    (x0 : FVec Ideal S512x1024 .bf16) (x1 : FVec Ideal S1x1024x1792 .bf16) (x2 : FVec Ideal S1x1024x1792 .bf16) (x3 : FVec Ideal S1x1792x1024 .bf16) (xt0 : TbBuf0 (F := Ideal) c tbM0_0) : sout0_A_0 c i arg3 harg3 arg4 harg4 arg5 harg5 arg6 harg6 arg7 harg7 arg8 harg8 hc0 hc1 hc2 x0 x1 x2 x3 xt0 = part x0 x1 x2 x3 := by
  frame_out
  funext y
  refine View.canon_apply_of_pieces (Val := Elt Ideal) (e := .f32) (part x0 x1 x2 x3) _ ?_ y (View.cover_of_tiledL (s := S512x1024) _ S256x1024.size (by sl_kernel_rfl) y)
  intro p hp q
  simp only [List.mem_cons, List.mem_singleton, List.not_mem_nil, or_false] at hp
  rcases hp with rfl | rfl
  · idx_vars q
    refine Eq.trans ?_ ((pay1_at x1 x2 x3 (View.ld (Val := Elt Ideal) (e' := .bf16) x0 (Rect.unit (s := S512x1024) ![256, 0] ![256, 1024] inb_S512x1024_S256x1024_256_0)) q0 q1).trans ?_)
    · pointwise [k0_pay3]
    · have h : (Rect.unit (s := S512x1024) ![256, 0] ![256, 1024] inb_S512x1024_S256x1024_256_0).emb (ix2 q0 q1) = ix2 ⟨256 + q0.val, by have := q0.isLt; omega⟩ q1 := by
        funext a; fin_cases a
        · exact Fin.ext (congrArg (256 + ·) (Nat.one_mul q0.val))
        · exact Fin.ext ((Nat.zero_add _).trans (Nat.one_mul q1.val))
      refine Eq.trans ?_ (congrArg (part x0 x1 x2 x3) h).symm
      exact congrArg (fun g => half g x1 x2 x3 q1) (funext fun k => ldHi x0 _ q0 _ rfl k)
  · idx_vars q
    refine Eq.trans ?_ ((pay10_at x1 x2 x3 (View.ld (Val := Elt Ideal) (e' := .bf16) x0 (Rect.unit (s := S512x1024) ![0, 0] ![256, 1024] inb_S512x1024_S256x1024_0_0)) q0 q1).trans ?_)
    · pointwise [k0_pay2]
    · have h : (Rect.unit (s := S512x1024) ![0, 0] ![256, 1024] inb_S512x1024_S256x1024_0_0).emb (ix2 q0 q1) = ix2 ⟨q0.val, by have := q0.isLt; omega⟩ q1 := by
        funext a; fin_cases a
        · exact Fin.ext ((Nat.zero_add _).trans (Nat.one_mul q0.val))
        · exact Fin.ext ((Nat.zero_add _).trans (Nat.one_mul q1.val))
      refine Eq.trans ?_ (congrArg (part x0 x1 x2 x3) h).symm
      exact congrArg (fun g => half g x1 x2 x3 q1) (funext fun k => ldLo x0 _ q0 _ rfl k)

theorem runB (c : Dev nD) (i : grid0.Coords) (arg3 : Memref sig .tc .vmem S512x1024 .bf16) (harg3 : arg3.IsWhole) (arg4 : Memref sig .tc .vmem S1x1024x1792 .bf16) (harg4 : arg4.IsWhole) (arg5 : Memref sig .tc .vmem S1x1024x1792 .bf16) (harg5 : arg5.IsWhole) (arg6 : Memref sig .tc .vmem S1x1792x1024 .bf16) (harg6 : arg6.IsWhole) (arg7 : Memref sig .tc .vmem S512x1024 .bf16) (harg7 : arg7.IsWhole) (arg8 : Memref sig .tc .vmem S512x1024 .f32) (harg8 : arg8.IsWhole) (hc0 : ¬cond0_0 i) (hc1 : ¬cond0_1 i) (hc2 : cond0_2 i)
    (x0 : FVec Ideal S512x1024 .bf16) (x1 : FVec Ideal S1x1024x1792 .bf16) (x2 : FVec Ideal S1x1024x1792 .bf16) (x3 : FVec Ideal S1x1792x1024 .bf16) (xt0 : TbBuf0 (F := Ideal) c tbM0_0) (xs0 : FVec Ideal S512x1024 .f32) : out0_B_4 c i arg3 harg3 arg4 harg4 arg5 harg5 arg6 harg6 arg7 harg7 arg8 harg8 hc0 hc1 hc2 x0 x1 x2 x3 xt0 xs0 = fun y => xs0 y + part x0 x1 x2 x3 y := by
  frame_out
  funext y; idx_vars y
  pointwise [k0_pay6]
  split
  · rw [pay10_at]
    exact congrArg (fun g => xs0 (ix2 y0 y1) + half g x1 x2 x3 y1) (funext fun k => ldLo x0 _ _ y0 rfl k)
  · rw [pay1_at]
    have e : (⟨256 + (y0.val - 256), by omega⟩ : Fin 512) = y0 := Fin.ext (by show 256 + (y0.val - 256) = y0.val; omega)
    exact (congrArg (fun g => xs0 (ix2 _ y1) + half g x1 x2 x3 y1) (funext fun k => ldHi x0 _ _ y0 (by show y0.val = 256 + (y0.val - 256); omega) k)).trans
      (congrArg (fun q => xs0 (ix2 q y1) + half (fun k => x0 (ix2 y0 k)) x1 x2 x3 y1) e)

end Cert.Exp

end
-- ==== Proof.ExpRun.lean ====
/- The experts' kernel, point by point. -/
module

public import proofs.«01_k».proof.Proof.ExpTile
public import proofs.«01_k».proof.Proof.Gen.Kernel2Ideal
public import proofs.«01_k».proof.Proof.Gen.Kernel2Ideal.Frame
public import Idealize.ShloMosaic.Lib.Pipeline.ReadBack

@[expose] public section

set_option maxRecDepth 16384

noncomputable section

namespace Cert.Exp

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (hO : Ok m)

section
variable (c : Dev nD) (t : Fin (cfgM m hO).N)

/-- What a grid point adds. -/
abbrev add : FVec Ideal S512x1024 .f32 := part (iblk m hO c 0 t) (iblk m hO c 1 t) (iblk m hO c 2 t) (iblk m hO c 3 t)

set_option maxHeartbeats 2000000 in
theorem scratchA (h : t.val % 2 = 0) (h2 : ¬ t.val % 2 = 1) : (outsAt0 m hO c t.val t.isLt).2 = add m hO c t := by
  have e := congrArg Prod.snd (outsAt0_A m hO c t h h2)
  have q1 := runA c (grid0.coords t) (ms0_0 m hO t) (hs0_0 m hO t) (ms0_1 m hO t) (hs0_1 m hO t) (ms0_2 m hO t) (hs0_2 m hO t) (ms0_3 m hO t) (hs0_3 m hO t)
  have q2 := q1 (ms0_4 m hO t) (hs0_4 m hO t) scM0_0 (Memref.isWhole_whole _)
  have q3 := q2 ((hcond0_0 t).mpr h) (hcond0_1 t) (fun h => h2 ((hcond0_2 t).mp h))
  have q4 := q3 (iblk m hO c 0 t) (iblk m hO c 1 t) (iblk m hO c 2 t) (iblk m hO c 3 t)
  have q5 := q4 (tbl m 0)
  exact e.trans q5

set_option maxHeartbeats 2000000 in
theorem outB (h : ¬ t.val % 2 = 0) (h2 : t.val % 2 = 1) : (outsAt0 m hO c t.val t.isLt).1
    = fun y => (outsAt0 m hO c (t.val - 1) (Nat.lt_of_le_of_lt (Nat.sub_le _ _) t.isLt)).2 y + add m hO c t y := by
  have e := congrArg Prod.fst (outsAt0_B m hO c t h h2)
  have q1 := runB c (grid0.coords t) (ms0_0 m hO t) (hs0_0 m hO t) (ms0_1 m hO t) (hs0_1 m hO t) (ms0_2 m hO t) (hs0_2 m hO t) (ms0_3 m hO t) (hs0_3 m hO t)
  have q2 := q1 (ms0_4 m hO t) (hs0_4 m hO t) scM0_0 (Memref.isWhole_whole _)
  have q3 := q2 (fun h' => h ((hcond0_0 t).mp h')) (hcond0_1 t) ((hcond0_2 t).mpr h2)
  have q4 := q3 (iblk m hO c 0 t) (iblk m hO c 1 t) (iblk m hO c 2 t) (iblk m hO c 3 t)
  have q5 := q4 (tbl m 0) (outsAt0 m hO c (t.val - 1) (Nat.lt_of_le_of_lt (Nat.sub_le _ _) t.isLt)).2
  exact e.trans q5
end

end Cert.Exp

end
-- ==== Proof.ExpFinal.lean ====
/- The experts' kernel: its result. -/
module

public import proofs.«01_k».proof.Proof.ExpRun

@[expose] public section

set_option maxRecDepth 16384

noncomputable section

namespace Cert.Exp

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (hO : Ok m)

/-- A product of one row's entries and one column's, from the blocks. -/
theorem hid_of (X : Fin 1024 → EReal) (a : FVec Ideal S1x1024x1792 .bf16) (x : FVec Ideal S69632x1024 .bf16) (w : FVec Ideal S8x1024x3584 .bf16)
    (g : Fin 8) (P : Fin 69632) (f : Fin 1792) (F : Fin 3584) (hx : ∀ k, X k = x (ix2 P k)) (ha : ∀ k, a (ix3 0 k f) = w (ix3 g k F)) :
    ∑ k : Fin 1024, X k * a (ix3 0 k f) = hid x w g P F :=
  Finset.sum_congr rfl fun k _ => congrArg₂ (· * ·) (hx k) (ha k)

/-- One half of an expert's hidden units, in terms of the arguments. -/
theorem half_of (X : Fin 1024 → EReal) (a b : FVec Ideal S1x1024x1792 .bf16) (v : FVec Ideal S1x1792x1024 .bf16) (x : FVec Ideal S69632x1024 .bf16)
    (w1 w3 : FVec Ideal S8x1024x3584 .bf16) (w2 : FVec Ideal S8x3584x1024 .bf16) (g : Fin 8) (P : Fin 69632) (d : Fin 1024) (F : Fin 1792 → Fin 3584)
    (hx : ∀ k, X k = x (ix2 P k)) (ha : ∀ k f, a (ix3 0 k f) = w1 (ix3 g k (F f))) (hb : ∀ k f, b (ix3 0 k f) = w3 (ix3 g k (F f)))
    (hv : ∀ f, v (ix3 0 f d) = w2 (ix3 g (F f) d)) : half X a b v d = ∑ f, term x w1 w3 w2 g P d (F f) :=
  Finset.sum_congr rfl fun f _ => congrArg₂ (· * ·) (congrArg₂ (· * ·) (congrArg silu (hid_of X a x w1 g P f (F f) hx fun k => ha k f))
    (hid_of X b x w3 g P f (F f) hx fun k => hb k f)) (hv f)

section
variable (c : Dev nD) (t : Fin (cfgM m hO).N) (hw : ∀ i, (tab m i).toNat < 8)
include hw

/-- What a grid point adds, in terms of the arguments. -/
theorem add_at (r : Fin 512) (d : Fin 1024) (P : Fin 69632) (hP : P.val = 512 * (t.val / 2) + r.val) (F : Fin 1792 → Fin 3584)
    (hF : ∀ f, (F f).val = 1792 * (t.val % 2) + f.val) :
    add m hO c t (ix2 r d) = ∑ f, term (aX m c) (aW1 m c) (aW3 m c) (aW2 m c) (expert (tab m) P.val) P d (F f) := by
  have hg : expert (tab m) P.val = exP m hO t := by
    have h : P.val / 512 % 136 = 512 * (t.val / 2) / 512 % 136 := by omega
    simp only [exP, expert, h]
  rw [hg]
  have hf : ∀ f, F f = ⟨1792 * (t.val % 2) + f.val, by omega⟩ := fun f => Fin.ext (hF f)
  refine half_of _ _ _ _ _ _ _ _ _ P d F (fun k => (blk0 m hO c t r k).trans (congrArg (fun q => aX m c (ix2 q k)) (Fin.ext hP.symm))) ?_ ?_ ?_
  · intro k f; rw [hf]; exact blk1 m hO c t hw k f
  · intro k f; rw [hf]; exact blk2 m hO c t hw k f
  · intro f; rw [hf]; exact blk3 m hO c t hw f d

/-- What is written back at the second point of a row block. -/
theorem point (h : t.val % 2 = 1) (r : Fin 512) (d : Fin 1024) (P : Fin 69632) (hP : P.val = 512 * (t.val / 2) + r.val) :
    (outsAt0 m hO c t.val t.isLt).1 (ix2 r d) = res (tab m) (aX m c) (aW1 m c) (aW3 m c) (aW2 m c) P d := by
  have ht := ltN m hO t
  let s : Fin (cfgM m hO).N := ⟨t.val - 1, Nat.lt_of_le_of_lt (Nat.sub_le _ _) t.isLt⟩
  have hs : s.val = t.val - 1 := rfl
  have e := congrFun (outB m hO c t (by omega) h) (ix2 r d)
  have e1 := congrFun (scratchA m hO c s (by omega) (by omega)) (ix2 r d)
  have a1 := add_at m hO c s hw r d P (by omega) (fun f => ⟨f.val, by omega⟩) (fun f => by show f.val = _; omega)
  have a2 := add_at m hO c t hw r d P hP (fun f => ⟨1792 + f.val, by omega⟩) (fun f => by show 1792 + f.val = _; omega)
  refine e.trans ((congrArg₂ (· + ·) (e1.trans a1) a2).trans ?_)
  exact (Fin.sum_univ_two_halves 1792 1792 rfl (term (aX m c) (aW1 m c) (aW3 m c) (aW2 m c) (expert (tab m) P.val) P d)).symm
end

/-- The row blocks cover the result. -/
theorem covers : ((cfgM m hO).win 4).Covers := by
  refine ⟨fun a => ?_, fun β => ?_⟩
  · fin_cases a
    · exact (show 0 < 512 by decide)
    · exact (show 0 < 1024 by decide)
  have h0 : (β (0 : Fin 2)).val < 136 := lt_of_lt_of_eq (β (0 : Fin 2)).isLt (show (69632 + 512 - 1) / 512 = 136 by decide)
  have h1 : (β (1 : Fin 2)).val < 1 := lt_of_lt_of_eq (β (1 : Fin 2)).isLt (show (1024 + 1024 - 1) / 1024 = 1 by decide)
  let t : Fin (cfgM m hO).N := ⟨2 * (β (0 : Fin 2)).val + 1, lt_of_lt_of_eq (by omega) (show 272 = (cfgM m hO).N from N_0.symm)⟩
  have hv : t.val = 2 * (β (0 : Fin 2)).val + 1 := rfl
  refine ⟨t, (flush0_4 _ t).mpr (by omega), fun a => ⟨?_, Or.inl ?_⟩⟩
  · refine (congrFun (idx m hO t).2.2.2.2 a).trans ?_
    fin_cases a
    · show t.val / 2 = (β (0 : Fin 2)).val
      omega
    · show 0 = (β (1 : Fin 2)).val
      omega
  · fin_cases a <;> rfl

/-- The experts' result as an array. -/
def resV (e : IVec S136 32) (x : FVec Ideal S69632x1024 .bf16) (w1 w3 : FVec Ideal S8x1024x3584 .bf16) (w2 : FVec Ideal S8x3584x1024 .bf16) :
    FVec Ideal S69632x1024 .bf16 := fun j => res e x w1 w3 w2 (j 0) (j 1)

/-- The result array. -/
theorem final (c : Dev nD) (hw : ∀ i, (tab m i).toNat < 8) : (dats m hO 0 c).arrAt 4 (cfgM m hO).N
    = resV (tab m) (aX m c) (aW1 m c) (aW3 m c) (aW2 m c) := by
  refine (dats m hO 0 c).arrAt_eq_of_covers 4 _ (covers m hO) fun t hf y => ?_
  have ht := ltN m hO t
  have hi := (idx m hO t).2.2.2.2
  have h : t.val % 2 = 1 := (flush0_4 _ t).mp hf
  blk_simp
  rw [after0_4]
  obtain ⟨r, d, rfl⟩ : ∃ (r : Fin 512) (d : Fin 1024), y = ix2 r d := ⟨y (0 : Fin 2), y (1 : Fin 2), by funext a; fin_cases a <;> rfl⟩
  have hP : 512 * (t.val / 2) + r.val < 69632 := by omega
  refine (point m hO c t hw h r d ⟨_, hP⟩ rfl).trans ?_
  refine (congrArg (resV (tab m) (aX m c) (aW1 m c) (aW3 m c) (aW2 m c)) (?_ : _ = ix2 ⟨_, hP⟩ d)).symm
  funext a
  refine Fin.ext ?_
  fin_cases a
  · blk_simp
    refine (congrArg (· * 512 + r.val) (congrFun hi (0 : Fin 2))).trans ?_
    show t.val / 2 * 512 + r.val = 512 * (t.val / 2) + r.val
    omega
  · blk_simp
    refine (congrArg (· * 1024 + d.val) (congrFun hi (1 : Fin 2))).trans ?_
    show 0 * 1024 + d.val = d.val
    omega

end Cert.Exp

end
-- ==== Proof.SwiRef.lean ====
/- The feed-forward call's reference, element by element. -/
module

public import proofs.«01_k».proof.Proof.Gen.Reference3Ideal
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Swi

open Idealize.ShloMosaic Idealize.ShloMosaic.TcCoe Idealize.SL.Sem
open Cert.Reference3Ideal Cert.Reference3Ideal.Gen

/-- The sigmoid. -/
def sig1 (h : EReal) : EReal := Ideal.div 1 (1 + Ideal.exp (-h))

/-- One hidden unit's share of a row's result. -/
def term (x a b : Fin 1024 → EReal) (v : EReal) : EReal :=
  (∑ k : Fin 1024, x k * a k) * sig1 (∑ k : Fin 1024, x k * a k) * (∑ k : Fin 1024, x k * b k) * v

/-- The residual sum of a row. -/
def pre (x : Fin 1024 → EReal) (s : Fin 1024 → EReal) (d : Fin 1024) : EReal := Ideal.ofBits .f32 0x3FB504F3#32 * x d + s d

/-- The mean of a row. -/
def mean (h : Fin 1024 → EReal) : EReal := Ideal.div (∑ k : Fin 1024, h k) (Ideal.ofBits .f32 0x44800000#32)

/-- The layer norm of a row. -/
def norm (h g b : Fin 1024 → EReal) (d : Fin 1024) : EReal :=
  (h d - mean h) * Ideal.rsqrt (mean (fun k => (h k - mean h) * (h k - mean h)) + Ideal.ofBits .f32 0x3727C5AC#32) * g d + b d

/-- The gated addition to a row. -/
def gate (y : Fin 1024 → EReal) (wg : Fin 1024 → EReal) (p wp : Fin 256 → EReal) (d : Fin 1024) : EReal :=
  y d + sig1 (∑ k : Fin 1024, y k * wg k) * ∑ k : Fin 256, p k * wp k

section
variable (x : FVec Ideal S32768x1024 .f32) (p : FVec Ideal S32768x256 .f32) (w1 w3 : FVec Ideal S1024x2752 .f32) (w2 : FVec Ideal S2752x1024 .f32)
  (g b : FVec Ideal S1024 .f32) (wg : FVec Ideal S1024x1024 .f32) (wp : FVec Ideal S256x1024 .f32)

def hidA (w : FVec Ideal S1024x2752 .f32) : FVec Ideal S32768x2752 .f32 :=
  Host.dotGeneral dot_S32768x1024_S1024x2752_S32768x2752_1_0_0_1_n_n none x w

def actA (u v : FVec Ideal S32768x2752 .f32) : FVec Ideal S32768x2752 .f32 :=
  mulf (mulf u (Host.divf (broadcastInDim S32768x2752 ![] bcast_S_S32768x2752 (constant S_ .f32 0x3F800000#32)) (addf (broadcastInDim S32768x2752 ![] bcast_S_S32768x2752 (constant S_ .f32 0x3F800000#32)) (Host.exp (Host.negf u))))) v

def preA (u : FVec Ideal S32768x2752 .f32) : FVec Ideal S32768x1024 .f32 :=
  addf (mulf (broadcastInDim S32768x1024 ![] bcast_S_S32768x1024 (constant S_ .f32 0x3FB504F3#32)) x) (Host.dotGeneral dot_S32768x2752_S2752x1024_S32768x1024_1_0_0_1_n_n none u w2)

def meanA (h : FVec Ideal S32768x1024 .f32) : FVec Ideal S32768x1 .f32 :=
  Host.divf (broadcastInDim S32768x1 ![0] bcast_S32768_S32768x1_0 (Host.reduceAdd h (constant S_ .f32 0x00000000#32) reducesTo_S32768x1024_S32768_d1 h_S_)) (broadcastInDim S32768x1 ![] bcast_S_S32768x1 (constant S_ .f32 0x44800000#32))

def cenA (h : FVec Ideal S32768x1024 .f32) : FVec Ideal S32768x1024 .f32 :=
  subf h (broadcastInDim S32768x1024 ![0, 1] bcast_S32768x1_S32768x1024_0_1 (meanA h))

def normA (u : FVec Ideal S32768x1024 .f32) : FVec Ideal S32768x1024 .f32 :=
  addf (mulf (mulf u (broadcastInDim S32768x1024 ![0, 1] bcast_S32768x1_S32768x1024_0_1 (Host.rsqrt (addf (meanA (mulf u u)) (broadcastInDim S32768x1 ![] bcast_S_S32768x1 (constant S_ .f32 0x3727C5AC#32))))))
    (broadcastInDim S32768x1024 ![0, 1] bcast_S1x1024_S32768x1024_0_1 (broadcastInDim S1x1024 ![1] bcast_S1024_S1x1024_1 g)))
    (broadcastInDim S32768x1024 ![0, 1] bcast_S1x1024_S32768x1024_0_1 (broadcastInDim S1x1024 ![1] bcast_S1024_S1x1024_1 b))

def gateA (y : FVec Ideal S32768x1024 .f32) : FVec Ideal S32768x1024 .f32 :=
  addf y (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (Host.dotGeneral dot_S32768x1024_S1024x1024_S32768x1024_1_0_0_1_n_n none y wg)))))
    (Host.dotGeneral dot_S32768x256_S256x1024_S32768x1024_1_0_0_1_n_n none p wp))

theorem res_main (m : (ℓ : Loc nD τ sig) → Buf (Elt Ideal) ℓ) (c : Dev nD) : Cert.Reference3Ideal.Value.res_main_v39 m c
    = gateA (m ((c.tc : Thread nD τ).loc main_arg1)) (m ((c.tc : Thread nD τ).loc main_arg7)) (m ((c.tc : Thread nD τ).loc main_arg8))
      (normA (m ((c.tc : Thread nD τ).loc main_arg5)) (m ((c.tc : Thread nD τ).loc main_arg6))
        (cenA (preA (m ((c.tc : Thread nD τ).loc main_arg0)) (m ((c.tc : Thread nD τ).loc main_arg4))
          (actA (hidA (m ((c.tc : Thread nD τ).loc main_arg0)) (m ((c.tc : Thread nD τ).loc main_arg2))) (hidA (m ((c.tc : Thread nD τ).loc main_arg0)) (m ((c.tc : Thread nD τ).loc main_arg3))))))) := rfl

theorem hidA_at (w : FVec Ideal S1024x2752 .f32) (P : Fin 32768) (f : Fin 2752) : hidA x w (ix2 P f) = ∑ k : Fin 1024, x (ix2 P k) * w (ix2 k f) := by
  pointwise [hidA]

theorem actA_at (u v : FVec Ideal S32768x2752 .f32) (P : Fin 32768) (f : Fin 2752) : actA u v (ix2 P f) = u (ix2 P f) * sig1 (u (ix2 P f)) * v (ix2 P f) := by
  pointwise [actA, sig1]

theorem preA_at (u : FVec Ideal S32768x2752 .f32) (P : Fin 32768) (d : Fin 1024) :
    preA x w2 u (ix2 P d) = pre (fun k => x (ix2 P k)) (fun d => ∑ f : Fin 2752, u (ix2 P f) * w2 (ix2 f d)) d := by
  pointwise [preA, pre]

theorem meanA_at (h : FVec Ideal S32768x1024 .f32) (P : Fin 32768) : meanA h (ix2 P 0) = mean fun k => h (ix2 P k) := by
  pointwise [meanA, mean]

theorem cenA_at (h : FVec Ideal S32768x1024 .f32) (P : Fin 32768) (d : Fin 1024) : cenA h (ix2 P d) = h (ix2 P d) - meanA h (ix2 P 0) := by
  pointwise [cenA]

theorem normA_at (u : FVec Ideal S32768x1024 .f32) (P : Fin 32768) (d : Fin 1024) :
    normA g b u (ix2 P d) = u (ix2 P d) * Ideal.rsqrt (meanA (mulf u u) (ix2 P 0) + Ideal.ofBits .f32 0x3727C5AC#32) * g (ix1 d) + b (ix1 d) := by
  pointwise [normA]

theorem sq_at (u : FVec Ideal S32768x1024 .f32) (P : Fin 32768) (d : Fin 1024) : mulf u u (ix2 P d) = u (ix2 P d) * u (ix2 P d) := rfl

theorem gateA_at (y : FVec Ideal S32768x1024 .f32) (P : Fin 32768) (d : Fin 1024) :
    gateA p wg wp y (ix2 P d) = gate (fun k => y (ix2 P k)) (fun k => wg (ix2 k d)) (fun k => p (ix2 P k)) (fun k => wp (ix2 k d)) d := by
  pointwise [gateA, gate, sig1]

/-- A row of the normed sum. -/
def mid (P : Fin 32768) (d : Fin 1024) : EReal :=
  norm (pre (fun k => x (ix2 P k)) (fun d => ∑ f : Fin 2752, term (fun k => x (ix2 P k)) (fun k => w1 (ix2 k f)) (fun k => w3 (ix2 k f)) (w2 (ix2 f d))))
    (fun d => g (ix1 d)) (fun d => b (ix1 d)) d

/-- The call's result. -/
def res (P : Fin 32768) (d : Fin 1024) : EReal :=
  gate (mid x w1 w3 w2 g b P) (fun k => wg (ix2 k d)) (fun k => p (ix2 P k)) (fun k => wp (ix2 k d)) d

theorem mid_at (P : Fin 32768) (d : Fin 1024) :
    normA g b (cenA (preA x w2 (actA (hidA x w1) (hidA x w3)))) (ix2 P d) = mid x w1 w3 w2 g b P d := by
  simp only [normA_at, meanA_at, sq_at, cenA_at, preA_at, actA_at, hidA_at, mid, norm, term]

theorem ref_at (P : Fin 32768) (d : Fin 1024) :
    gateA p wg wp (normA g b (cenA (preA x w2 (actA (hidA x w1) (hidA x w3))))) (ix2 P d) = res x p w1 w3 w2 g b wg wp P d := by
  rw [gateA_at, res]
  simp only [mid_at]

/-- The call's result as an array. -/
def resV : FVec Ideal S32768x1024 .f32 := fun j => res x p w1 w3 w2 g b wg wp (j 0) (j 1)

theorem ref_eq : gateA p wg wp (normA g b (cenA (preA x w2 (actA (hidA x w1) (hidA x w3))))) = resV x p w1 w3 w2 g b wg wp := by
  funext j; idx_vars j
  exact ref_at x p w1 w3 w2 g b wg wp j0 j1
end

end Cert.Swi

end
-- ==== Proof.SwiIn.lean ====
/- The feed-forward call's kernel: what its blocks hold. -/
module

public import proofs.«01_k».proof.Proof.SwiRef
public import proofs.«01_k».proof.Proof.Gen.Kernel3Ideal
public import proofs.«01_k».proof.Proof.Gen.Kernel3Ideal.Frame
public import Idealize.ShloMosaic.Lib.Pipeline.ValueKit
public import Idealize.ShloMosaic.Lib.Pointwise
public import Idealize.ShloMosaic.Lib.Claim

@[expose] public section

set_option maxRecDepth 16384

noncomputable section

namespace Cert.Swi

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The arguments. -/
abbrev aX (c : Dev nD) : FVec Ideal S32768x1024 .f32 := m ((c : Thread nD τ).loc main_arg0)
abbrev aP (c : Dev nD) : FVec Ideal S32768x256 .f32 := m ((c : Thread nD τ).loc main_arg1)
abbrev aW1 (c : Dev nD) : FVec Ideal S1024x2752 .f32 := m ((c : Thread nD τ).loc main_arg2)
abbrev aW3 (c : Dev nD) : FVec Ideal S1024x2752 .f32 := m ((c : Thread nD τ).loc main_arg3)
abbrev aW2 (c : Dev nD) : FVec Ideal S2752x1024 .f32 := m ((c : Thread nD τ).loc main_arg4)
abbrev aG (c : Dev nD) : FVec Ideal S1024 .f32 := m ((c : Thread nD τ).loc main_arg5)
abbrev aB (c : Dev nD) : FVec Ideal S1024 .f32 := m ((c : Thread nD τ).loc main_arg6)
abbrev aWg (c : Dev nD) : FVec Ideal S1024x1024 .f32 := m ((c : Thread nD τ).loc main_arg7)
abbrev aWp (c : Dev nD) : FVec Ideal S256x1024 .f32 := m ((c : Thread nD τ).loc main_arg8)

theorem ltN (t : Fin cfg0.N) : t.val < 128 := t.isLt

/-- Which block each window holds at a grid point. -/
theorem idx : ∀ t : Fin cfg0.N, win0_0.index t = ![t.val / 2, 0] ∧ win0_1.index t = ![t.val / 2, 0]
    ∧ win0_2.index t = ![0, t.val % 2] ∧ win0_3.index t = ![0, t.val % 2] ∧ win0_4.index t = ![t.val % 2, 0]
    ∧ win0_5.index t = ![0, 0] ∧ win0_6.index t = ![0, 0] ∧ win0_7.index t = ![0, 0] ∧ win0_8.index t = ![0, 0]
    ∧ win0_9.index t = ![t.val / 2, 0] :=
  (by decide +kernel : ∀ t : Fin grid0.N, _)

/-- What the calls before the kernel leave: the weights padded or narrowed, the vectors as rows. -/
theorem V_v1 (c : Dev nD) : (V m c main_v1 : FVec Ideal S1024x2816 .bf16) = pad S1024x2816 ![0, 0] ![0, 64] ![0, 0] (truncf .bf16 (aW1 m c) bitsLt_bf16_f32) (sitofp .bf16 (constantI S_ 32 0#32)) pads_S1024x2752_S1024x2816_000_0640 h_S_ := by
  show StableHlo.after (List.flatten [hostOps0, hostOps0_1, hostOps0_2, hostOps0_3, hostOps0_4, hostOps0_5, hostOps0_6]) _ (Proc.devRef .tc main_v1) = _
  simp only [hostOps0, hostOps0_1, hostOps0_2, hostOps0_3, hostOps0_4, hostOps0_5, hostOps0_6, List.flatten_cons, List.flatten_nil, List.append_nil, List.cons_append, List.nil_append]
  after_results
  rfl

theorem V_v3 (c : Dev nD) : (V m c main_v3 : FVec Ideal S1024x2816 .bf16) = pad S1024x2816 ![0, 0] ![0, 64] ![0, 0] (truncf .bf16 (aW3 m c) bitsLt_bf16_f32) (sitofp .bf16 (constantI S_ 32 0#32)) pads_S1024x2752_S1024x2816_000_0640 h_S_ := by
  show StableHlo.after (List.flatten [hostOps0, hostOps0_1, hostOps0_2, hostOps0_3, hostOps0_4, hostOps0_5, hostOps0_6]) _ (Proc.devRef .tc main_v3) = _
  simp only [hostOps0, hostOps0_1, hostOps0_2, hostOps0_3, hostOps0_4, hostOps0_5, hostOps0_6, List.flatten_cons, List.flatten_nil, List.append_nil, List.cons_append, List.nil_append]
  after_results
  rfl

theorem V_v5 (c : Dev nD) : (V m c main_v5 : FVec Ideal S2816x1024 .bf16) = pad S2816x1024 ![0, 0] ![64, 0] ![0, 0] (truncf .bf16 (aW2 m c) bitsLt_bf16_f32) (sitofp .bf16 (constantI S_ 32 0#32)) pads_S2752x1024_S2816x1024_0640_000 h_S_ := by
  show StableHlo.after (List.flatten [hostOps0, hostOps0_1, hostOps0_2, hostOps0_3, hostOps0_4, hostOps0_5, hostOps0_6]) _ (Proc.devRef .tc main_v5) = _
  simp only [hostOps0, hostOps0_1, hostOps0_2, hostOps0_3, hostOps0_4, hostOps0_5, hostOps0_6, List.flatten_cons, List.flatten_nil, List.append_nil, List.cons_append, List.nil_append]
  after_results
  rfl

theorem V_v6 (c : Dev nD) : (V m c main_v6 : FVec Ideal S1x1024 .f32) = shapeCast S1x1024 (aG m c) shapeCasts_S1024_S1x1024 := by
  show StableHlo.after (List.flatten [hostOps0, hostOps0_1, hostOps0_2, hostOps0_3, hostOps0_4, hostOps0_5, hostOps0_6]) _ (Proc.devRef .tc main_v6) = _
  simp only [hostOps0, hostOps0_1, hostOps0_2, hostOps0_3, hostOps0_4, hostOps0_5, hostOps0_6, List.flatten_cons, List.flatten_nil, List.append_nil, List.cons_append, List.nil_append]
  after_results
  rfl

theorem V_v7 (c : Dev nD) : (V m c main_v7 : FVec Ideal S1x1024 .f32) = shapeCast S1x1024 (aB m c) shapeCasts_S1024_S1x1024 := by
  show StableHlo.after (List.flatten [hostOps0, hostOps0_1, hostOps0_2, hostOps0_3, hostOps0_4, hostOps0_5, hostOps0_6]) _ (Proc.devRef .tc main_v7) = _
  simp only [hostOps0, hostOps0_1, hostOps0_2, hostOps0_3, hostOps0_4, hostOps0_5, hostOps0_6, List.flatten_cons, List.flatten_nil, List.append_nil, List.cons_append, List.nil_append]
  after_results
  rfl

theorem V_v8 (c : Dev nD) : (V m c main_v8 : FVec Ideal S1024x1024 .bf16) = truncf .bf16 (aWg m c) bitsLt_bf16_f32 := by
  show StableHlo.after (List.flatten [hostOps0, hostOps0_1, hostOps0_2, hostOps0_3, hostOps0_4, hostOps0_5, hostOps0_6]) _ (Proc.devRef .tc main_v8) = _
  simp only [hostOps0, hostOps0_1, hostOps0_2, hostOps0_3, hostOps0_4, hostOps0_5, hostOps0_6, List.flatten_cons, List.flatten_nil, List.append_nil, List.cons_append, List.nil_append]
  after_results

theorem V_v9 (c : Dev nD) : (V m c main_v9 : FVec Ideal S256x1024 .bf16) = truncf .bf16 (aWp m c) bitsLt_bf16_f32 := by
  show StableHlo.after (List.flatten [hostOps0, hostOps0_1, hostOps0_2, hostOps0_3, hostOps0_4, hostOps0_5, hostOps0_6]) _ (Proc.devRef .tc main_v9) = _
  simp only [hostOps0, hostOps0_1, hostOps0_2, hostOps0_3, hostOps0_4, hostOps0_5, hostOps0_6, List.flatten_cons, List.flatten_nil, List.append_nil, List.cons_append, List.nil_append]
  after_results

/-- A padded weight inside the weight, and in the padding. -/
theorem w1_in (c : Dev nD) (k : Fin 1024) (f : Fin 2816) (h : f.val < 2752) :
    (V m c main_v1 : FVec Ideal S1024x2816 .bf16) (ix2 k f) = aW1 m c (ix2 k ⟨f, h⟩) := by
  rw [V_v1]
  pointwise
  rw [dif_pos (by omega)]

theorem w3_in (c : Dev nD) (k : Fin 1024) (f : Fin 2816) (h : f.val < 2752) :
    (V m c main_v3 : FVec Ideal S1024x2816 .bf16) (ix2 k f) = aW3 m c (ix2 k ⟨f, h⟩) := by
  rw [V_v3]
  pointwise
  rw [dif_pos (by omega)]

theorem w2_in (c : Dev nD) (f : Fin 2816) (d : Fin 1024) (h : f.val < 2752) :
    (V m c main_v5 : FVec Ideal S2816x1024 .bf16) (ix2 f d) = aW2 m c (ix2 ⟨f, h⟩ d) := by
  rw [V_v5]
  pointwise
  rw [dif_pos (by omega)]

theorem w2_out (c : Dev nD) (f : Fin 2816) (d : Fin 1024) (h : ¬ f.val < 2752) :
    (V m c main_v5 : FVec Ideal S2816x1024 .bf16) (ix2 f d) = (0 : EReal) := by
  rw [V_v5]
  pointwise
  rw [dif_neg (by omega)]
  show (((0#32).toInt : ℝ) : EReal) = 0
  simp

section
variable (c : Dev nD) (t : Fin cfg0.N)

theorem blk0 (r : Fin 512) (k : Fin 1024) : (iblk m c 0 t : FVec Ideal S512x1024 .f32) (ix2 r k)
    = aX m c (ix2 ⟨512 * (t.val / 2) + r, by have := ltN t; omega⟩ k) := by
  have ht := ltN t
  blk_ext [iblk, V, idx t]

theorem blk1 (r : Fin 512) (k : Fin 256) : (iblk m c 1 t : FVec Ideal S512x256 .f32) (ix2 r k)
    = aP m c (ix2 ⟨512 * (t.val / 2) + r, by have := ltN t; omega⟩ k) := by
  have ht := ltN t
  blk_ext [iblk, V, idx t]

theorem blk2 (k : Fin 1024) (f : Fin 1408) : (iblk m c 2 t : FVec Ideal S1024x1408 .bf16) (ix2 k f)
    = (V m c main_v1 : FVec Ideal S1024x2816 .bf16) (ix2 k ⟨1408 * (t.val % 2) + f, by omega⟩) := by
  have ht := ltN t
  blk_ext [iblk, idx t]

theorem blk3 (k : Fin 1024) (f : Fin 1408) : (iblk m c 3 t : FVec Ideal S1024x1408 .bf16) (ix2 k f)
    = (V m c main_v3 : FVec Ideal S1024x2816 .bf16) (ix2 k ⟨1408 * (t.val % 2) + f, by omega⟩) := by
  have ht := ltN t
  blk_ext [iblk, idx t]

theorem blk4 (f : Fin 1408) (d : Fin 1024) : (iblk m c 4 t : FVec Ideal S1408x1024 .bf16) (ix2 f d)
    = (V m c main_v5 : FVec Ideal S2816x1024 .bf16) (ix2 ⟨1408 * (t.val % 2) + f, by omega⟩ d) := by
  have ht := ltN t
  blk_ext [iblk, idx t]

theorem blk5 (d : Fin 1024) : (iblk m c 5 t : FVec Ideal S1x1024 .f32) (ix2 0 d) = aG m c (ix1 d) := by
  have h : (iblk m c 5 t : FVec Ideal S1x1024 .f32) (ix2 0 d) = (V m c main_v6 : FVec Ideal S1x1024 .f32) (ix2 0 d) := by
    blk_ext [iblk, idx t]
  rw [h, V_v6]
  pointwise

theorem blk6 (d : Fin 1024) : (iblk m c 6 t : FVec Ideal S1x1024 .f32) (ix2 0 d) = aB m c (ix1 d) := by
  have h : (iblk m c 6 t : FVec Ideal S1x1024 .f32) (ix2 0 d) = (V m c main_v7 : FVec Ideal S1x1024 .f32) (ix2 0 d) := by
    blk_ext [iblk, idx t]
  rw [h, V_v7]
  pointwise

theorem blk7 (k d : Fin 1024) : (iblk m c 7 t : FVec Ideal S1024x1024 .bf16) (ix2 k d) = aWg m c (ix2 k d) := by
  have h : (iblk m c 7 t : FVec Ideal S1024x1024 .bf16) (ix2 k d) = (V m c main_v8 : FVec Ideal S1024x1024 .bf16) (ix2 k d) := by
    blk_ext [iblk, idx t]
  rw [h, V_v8]
  pointwise

theorem blk8 (k : Fin 256) (d : Fin 1024) : (iblk m c 8 t : FVec Ideal S256x1024 .bf16) (ix2 k d) = aWp m c (ix2 k d) := by
  have h : (iblk m c 8 t : FVec Ideal S256x1024 .bf16) (ix2 k d) = (V m c main_v9 : FVec Ideal S256x1024 .bf16) (ix2 k d) := by
    blk_ext [iblk, idx t]
  rw [h, V_v9]
  pointwise
end

end Cert.Swi

end
-- ==== Proof.SwiPay.lean ====
/- The feed-forward call's kernel: its arithmetic, element by element. -/
module

public import proofs.«01_k».proof.Proof.SwiRef
public import proofs.«01_k».proof.Proof.Gen.Kernel3Ideal
public import proofs.«01_k».proof.Proof.Gen.Kernel3Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Swi

open Idealize.ShloMosaic Idealize.ShloMosaic.TcCoe Idealize.SL.Sem
open Idealize.ShloMosaic.Pipeline (Dat)
open Cert.Kernel3Ideal Cert.Kernel3Ideal.Gen

/-- The sum over half the padded hidden units, from the blocks of the weights. -/
def half (x : Fin 1024 → EReal) (a b : FVec Ideal S1024x1408 .bf16) (w : FVec Ideal S1408x1024 .bf16) (d : Fin 1024) : EReal :=
  ∑ f : Fin 1408, term x (fun k => a (ix2 k f)) (fun k => b (ix2 k f)) (w (ix2 f d))

theorem pay15_at (a b : FVec Ideal S1024x1408 .bf16) (w : FVec Ideal S1408x1024 .bf16) (x : FVec Ideal S256x1024 .bf16) (r : Fin 256) (d : Fin 1024) :
    k0_pay15 (F := Ideal) a b w x (ix2 r d) = half (fun k => x (ix2 r k)) a b w d := by
  pointwise [k0_pay15, k0_pay11, k0_pay12, k0_pay13, half, term, sig1]
  simp only [zero_sub]

theorem pay1_at (a b : FVec Ideal S1024x1408 .bf16) (w : FVec Ideal S1408x1024 .bf16) (x : FVec Ideal S256x1024 .bf16) (r : Fin 256) (d : Fin 1024) :
    k0_pay1 (F := Ideal) (k0_pay13 w) (k0_pay14 b x) (k0_pay16 a x) (ix2 r d) = half (fun k => x (ix2 r k)) a b w d := by
  pointwise [k0_pay1, k0_pay14, k0_pay16, k0_pay11, k0_pay12, k0_pay13, half, term, sig1]
  simp only [zero_sub]

/-- What one grid point adds to its rows, from its blocks. -/
def part (x0 : FVec Ideal S512x1024 .bf16) (x1 x2 : FVec Ideal S1024x1408 .bf16) (x3 : FVec Ideal S1408x1024 .bf16) : FVec Ideal S512x1024 .f32 :=
  fun y => half (fun k => x0 (ix2 (y 0) k)) x1 x2 x3 (y 1)

/-- The two halves of the rows, the sum of two arrays: the kernel's joined sum at an element. -/
def joined (u v : FVec Ideal S256x1024 .f32) (s t : FVec Ideal S256x1024 .f32) : FVec Ideal S512x1024 .f32 :=
  concatenate S512x1024 0 [⟨S256x1024, addf s u⟩, ⟨S256x1024, addf t v⟩] concatenates_S256x1024_S256x1024_S512x1024_d0

/-- The kernel's residual sum. -/
def preK (x0 : FVec Ideal S512x1024 .f32) (s : FVec Ideal S512x1024 .f32) : FVec Ideal S512x1024 .f32 :=
  addf (mulf (broadcast S512x1024 (Scalar.ofBits .f32 0x3FB504F3#32)) x0) s

def meanK (h : FVec Ideal S512x1024 .f32) : FVec Ideal S512x1 .f32 :=
  divf (shapeCast S512x1 (multiReduction .add [1] S512 h 0x00000000#32 reduces_S512x1024_S512 (.inl rfl) rfl) shapeCasts_S512_S512x1) (broadcast S512x1 (Scalar.ofBits .f32 0x44800000#32))

def cenK (h : FVec Ideal S512x1024 .f32) : FVec Ideal S512x1024 .f32 :=
  subf h (broadcastTo S512x1024 (meanK h) broadcasts_S512x1_S512x1024)

def normK (g b : FVec Ideal S1x1024 .f32) (u : FVec Ideal S512x1024 .f32) : FVec Ideal S512x1024 .f32 :=
  addf (mulf (mulf u (broadcastTo S512x1024 (rsqrt (addf (meanK (mulf u u)) (broadcast S512x1 (Scalar.ofBits .f32 0x3727C5AC#32)))) broadcasts_S512x1_S512x1024))
    (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

theorem pay9_eq (u v s t : FVec Ideal S256x1024 .f32) (x0 : FVec Ideal S512x1024 .f32) (g b : FVec Ideal S1x1024 .f32) :
    k0_pay9 (F := Ideal) u v s t x0 g b = normK g b (cenK (preK x0 (joined u v s t))) := rfl

theorem preK_at (x0 s : FVec Ideal S512x1024 .f32) (r : Fin 512) (d : Fin 1024) :
    preK x0 s (ix2 r d) = pre (fun k => x0 (ix2 r k)) (fun k => s (ix2 r k)) d := by
  pointwise [preK, pre]

theorem meanK_at (h : FVec Ideal S512x1024 .f32) (r : Fin 512) : meanK h (ix2 r 0) = mean fun k => h (ix2 r k) := by
  pointwise [meanK, mean]

theorem cenK_at (h : FVec Ideal S512x1024 .f32) (r : Fin 512) (d : Fin 1024) : cenK h (ix2 r d) = h (ix2 r d) - meanK h (ix2 r 0) := by
  pointwise [cenK]

theorem normK_at (g b : FVec Ideal S1x1024 .f32) (u : FVec Ideal S512x1024 .f32) (r : Fin 512) (d : Fin 1024) :
    normK g b u (ix2 r d) = u (ix2 r d) * Ideal.rsqrt (meanK (mulf u u) (ix2 r 0) + Ideal.ofBits .f32 0x3727C5AC#32) * g (ix2 0 d) + b (ix2 0 d) := by
  pointwise [normK]

theorem sqK_at (u : FVec Ideal S512x1024 .f32) (r : Fin 512) (d : Fin 1024) : mulf u u (ix2 r d) = u (ix2 r d) * u (ix2 r d) := rfl

theorem midK_at (x0 s : FVec Ideal S512x1024 .f32) (g b : FVec Ideal S1x1024 .f32) (r : Fin 512) (d : Fin 1024) :
    normK g b (cenK (preK x0 s)) (ix2 r d)
      = norm (pre (fun k => x0 (ix2 r k)) (fun k => s (ix2 r k))) (fun d => g (ix2 0 d)) (fun d => b (ix2 0 d)) d := by
  simp only [normK_at, meanK_at, sqK_at, cenK_at, preK_at, norm]

theorem pay6_at (p : FVec Ideal S512x256 .f32) (wg : FVec Ideal S1024x1024 .bf16) (wp : FVec Ideal S256x1024 .bf16) (y : FVec Ideal S512x1024 .f32) (r : Fin 512) (d : Fin 1024) :
    k0_pay6 (F := Ideal) p (k0_pay7 wg) (k0_pay8 wp) y (ix2 r d)
      = gate (fun k => y (ix2 r k)) (fun k => wg (ix2 k d)) (fun k => p (ix2 r k)) (fun k => wp (ix2 k d)) d := by
  pointwise [k0_pay6, k0_pay7, k0_pay8, gate, sig1]
  simp only [zero_sub]

theorem joined_lo (u v s t : FVec Ideal S256x1024 .f32) (r : Fin 512) (h : r.val < 256) (d : Fin 1024) :
    joined u v s t (ix2 r d) = s (ix2 ⟨r, h⟩ d) + u (ix2 ⟨r, h⟩ d) := by
  pointwise [joined]
  rw [dif_pos h]

theorem joined_hi (u v s t : FVec Ideal S256x1024 .f32) (r : Fin 512) (h : ¬ r.val < 256) (d : Fin 1024) :
    joined u v s t (ix2 r d) = t (ix2 ⟨r - 256, by omega⟩ d) + v (ix2 ⟨r - 256, by omega⟩ d) := by
  pointwise [joined]
  rw [dif_neg h]

theorem ldLo {e' : EltTy} (x0 : Vec Ideal S512x1024 e') (inb) (r : Fin 256) (R : Fin 512) (h : R.val = r.val) (k : Fin 1024) :
    View.ld (Val := Elt Ideal) (e' := e') x0 (Rect.unit (s := S512x1024) ![0, 0] ![256, 1024] inb) (ix2 r k) = x0 (ix2 R k) := by
  rw [show R = ⟨r.val, by omega⟩ from Fin.ext h]
  pointwise

theorem ldHi {e' : EltTy} (x0 : Vec Ideal S512x1024 e') (inb) (r : Fin 256) (R : Fin 512) (h : R.val = 256 + r.val) (k : Fin 1024) :
    View.ld (Val := Elt Ideal) (e' := e') x0 (Rect.unit (s := S512x1024) ![256, 0] ![256, 1024] inb) (ix2 r k) = x0 (ix2 R k) := by
  rw [show R = ⟨256 + r.val, by omega⟩ from Fin.ext h]
  pointwise

end Cert.Swi

end
-- ==== Proof.SwiTile.lean ====
/- The feed-forward call's kernel: one grid point. -/
module

public import proofs.«01_k».proof.Proof.SwiPay
public import proofs.«01_k».proof.Proof.Gen.Kernel3Ideal
public import proofs.«01_k».proof.Proof.Gen.Kernel3Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Swi

open Idealize.ShloMosaic Idealize.ShloMosaic.TcCoe Idealize.SL.Sem
open Idealize.ShloMosaic.Pipeline (Dat)
open Cert.Kernel3Ideal Cert.Kernel3Ideal.Gen

theorem zero2 : (![0, 0] : Fin 2 → ℕ) = fun _ => 0 := by funext a; fin_cases a <;> rfl

/-- A part of the scratch read after the whole of it was written. -/
theorem cov {sp : Space} (v : View sig .tc sp S512x1024 .bf16) (w : FVec Ideal S512x1024 .bf16) (inb) (o : Fin 2 → ℕ) (inb') :
    View.readCov (Val := Elt Ideal) v [⟨Rect.unit (s := S512x1024) ![0, 0] ![512, 1024] inb, w⟩] (Rect.unit (s := S512x1024) o ![256, 1024] inb').toLoadRect
      = View.ld (Val := Elt Ideal) (e' := .bf16) w (Rect.unit (s := S512x1024) o ![256, 1024] inb') := by
  rw [View.readCov_eq_canon']
  funext j
  exact congrFun (View.canon_unit_zero (Val := Elt Ideal) (S := S512x1024) (e := .bf16) zero2 inb w) _

theorem pay10_eq (x : FVec Ideal S512x1024 .f32) : k0_pay10 (F := Ideal) x = fun y => x y := by
  funext y; idx_vars y
  pointwise [k0_pay10]

theorem runA0 (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S256x1024 .bf16) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (hc0 : cond0_0 i) (hc1 : cond0_1 i) (hc2 : ¬cond0_2 i) (hc3 : ¬cond0_3 i)
    (x0 : FVec Ideal S512x1024 .f32) (x1 : FVec Ideal S512x256 .f32) (x2 : FVec Ideal S1024x1408 .bf16) (x3 : FVec Ideal S1024x1408 .bf16) (x4 : FVec Ideal S1408x1024 .bf16) (x5 : FVec Ideal S1x1024 .f32) (x6 : FVec Ideal S1x1024 .f32) (x7 : FVec Ideal S1024x1024 .bf16) (x8 : FVec Ideal S256x1024 .bf16) : sout0_A_0 (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 = ((fun y => x0 y) : FVec Ideal S512x1024 .bf16) := by
  frame_out
  funext y
  idx_vars y
  pointwise [k0_pay10]

theorem runA1 (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S256x1024 .bf16) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (hc0 : cond0_0 i) (hc1 : cond0_1 i) (hc2 : ¬cond0_2 i) (hc3 : ¬cond0_3 i)
    (x0 : FVec Ideal S512x1024 .f32) (x1 : FVec Ideal S512x256 .f32) (x2 : FVec Ideal S1024x1408 .bf16) (x3 : FVec Ideal S1024x1408 .bf16) (x4 : FVec Ideal S1408x1024 .bf16) (x5 : FVec Ideal S1x1024 .f32) (x6 : FVec Ideal S1x1024 .f32) (x7 : FVec Ideal S1024x1024 .bf16) (x8 : FVec Ideal S256x1024 .bf16) : sout0_A_1 (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 = part (fun y => x0 y) x2 x3 x4 := by
  frame_out
  funext y
  refine View.canon_apply_of_pieces (Val := Elt Ideal) (e := .f32) (part (fun y => x0 y) x2 x3 x4) _ ?_ y (View.cover_of_tiledL (s := S512x1024) _ S256x1024.size (by sl_kernel_rfl) y)
  intro p hp q
  simp only [List.mem_cons, List.mem_singleton, List.not_mem_nil, or_false] at hp
  rcases hp with rfl | rfl
  · idx_vars q
    rw [cov, pay10_eq]
    refine Eq.trans ?_ ((pay1_at x2 x3 x4 (View.ld (Val := Elt Ideal) (e' := .bf16) (fun y => x0 y) (Rect.unit (s := S512x1024) ![256, 0] ![256, 1024] inb_S512x1024_S256x1024_256_0)) q0 q1).trans ?_)
    · pointwise [k0_pay3]
    · have h : (Rect.unit (s := S512x1024) ![256, 0] ![256, 1024] inb_S512x1024_S256x1024_256_0).emb (ix2 q0 q1) = ix2 ⟨256 + q0.val, by have := q0.isLt; omega⟩ q1 := by
        funext a; fin_cases a
        · exact Fin.ext (congrArg (256 + ·) (Nat.one_mul q0.val))
        · exact Fin.ext ((Nat.zero_add _).trans (Nat.one_mul q1.val))
      refine Eq.trans ?_ (congrArg (part (fun y => x0 y) x2 x3 x4) h).symm
      exact congrArg (fun g => half g x2 x3 x4 q1) (funext fun k => ldHi (e' := .bf16) (fun y => x0 y) _ q0 _ rfl k)
  · idx_vars q
    rw [cov, pay10_eq]
    refine Eq.trans ?_ ((pay15_at x2 x3 x4 (View.ld (Val := Elt Ideal) (e' := .bf16) (fun y => x0 y) (Rect.unit (s := S512x1024) ![0, 0] ![256, 1024] inb_S512x1024_S256x1024_0_0)) q0 q1).trans ?_)
    · pointwise [k0_pay2]
    · have h : (Rect.unit (s := S512x1024) ![0, 0] ![256, 1024] inb_S512x1024_S256x1024_0_0).emb (ix2 q0 q1) = ix2 ⟨q0.val, by have := q0.isLt; omega⟩ q1 := by
        funext a; fin_cases a
        · exact Fin.ext ((Nat.zero_add _).trans (Nat.one_mul q0.val))
        · exact Fin.ext ((Nat.zero_add _).trans (Nat.one_mul q1.val))
      refine Eq.trans ?_ (congrArg (part (fun y => x0 y) x2 x3 x4) h).symm
      exact congrArg (fun g => half g x2 x3 x4 q1) (funext fun k => ldLo (e' := .bf16) (fun y => x0 y) _ q0 _ rfl k)

/-- What the second point of a row block writes back. -/
def fin (p : FVec Ideal S512x256 .f32) (wg : FVec Ideal S1024x1024 .bf16) (wp : FVec Ideal S256x1024 .bf16) (g b : FVec Ideal S1x1024 .f32)
    (x0 s : FVec Ideal S512x1024 .f32) : FVec Ideal S512x1024 .f32 := fun y =>
  gate (norm (pre (fun k => x0 (ix2 (y 0) k)) (fun k => s (ix2 (y 0) k))) (fun d => g (ix2 0 d)) (fun d => b (ix2 0 d)))
    (fun k => wg (ix2 k (y 1))) (fun k => p (ix2 (y 0) k)) (fun k => wp (ix2 k (y 1))) (y 1)

theorem runB (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S256x1024 .bf16) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (hc0 : ¬cond0_0 i) (hc1 : ¬cond0_1 i) (hc2 : ¬cond0_2 i) (hc3 : cond0_3 i)
    (x0 : FVec Ideal S512x1024 .f32) (x1 : FVec Ideal S512x256 .f32) (x2 : FVec Ideal S1024x1408 .bf16) (x3 : FVec Ideal S1024x1408 .bf16) (x4 : FVec Ideal S1408x1024 .bf16) (x5 : FVec Ideal S1x1024 .f32) (x6 : FVec Ideal S1x1024 .f32) (x7 : FVec Ideal S1024x1024 .bf16) (x8 : FVec Ideal S256x1024 .bf16) (xs0 : FVec Ideal S512x1024 .bf16) (xs1 : FVec Ideal S512x1024 .f32) : out0_B_9 (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 xs0 xs1 = fin x1 x7 x8 x5 x6 x0 (fun y => xs1 y + part xs0 x2 x3 x4 y) := by
  frame_out
  funext y; idx_vars y
  rw [pay6_at, pay9_eq]
  simp only [midK_at]
  have hj : ∀ k : Fin 1024, joined (k0_pay15 x2 x3 x4 (View.ld (Val := Elt Ideal) (e' := .bf16) xs0 (Rect.unit (s := S512x1024) ![0, 0] ![256, 1024] inb_S512x1024_S256x1024_0_0)))
      (k0_pay1 (k0_pay13 x4) (k0_pay14 x3 (View.ld (Val := Elt Ideal) (e' := .bf16) xs0 (Rect.unit (s := S512x1024) ![256, 0] ![256, 1024] inb_S512x1024_S256x1024_256_0)))
        (k0_pay16 x2 (View.ld (Val := Elt Ideal) (e' := .bf16) xs0 (Rect.unit (s := S512x1024) ![256, 0] ![256, 1024] inb_S512x1024_S256x1024_256_0))))
      (View.ld (Val := Elt Ideal) (e' := .f32) xs1 (Rect.unit (s := S512x1024) ![0, 0] ![256, 1024] inb_S512x1024_S256x1024_0_0))
      (View.ld (Val := Elt Ideal) (e' := .f32) xs1 (Rect.unit (s := S512x1024) ![256, 0] ![256, 1024] inb_S512x1024_S256x1024_256_0)) (ix2 y0 k)
      = xs1 (ix2 y0 k) + part xs0 x2 x3 x4 (ix2 y0 k) := by
    intro k
    by_cases h : y0.val < 256
    · rw [joined_lo _ _ _ _ _ h, pay15_at]
      exact congrArg₂ (· + ·) (ldLo (e' := .f32) xs1 _ _ y0 rfl k) (congrArg (fun g => half g x2 x3 x4 k) (funext fun l => ldLo (e' := .bf16) xs0 _ _ y0 rfl l))
    · have e : y0.val = 256 + (y0.val - 256) := by omega
      rw [joined_hi _ _ _ _ _ h, pay1_at]
      exact congrArg₂ (· + ·) (ldHi (e' := .f32) xs1 _ _ y0 e k) (congrArg (fun g => half g x2 x3 x4 k) (funext fun l => ldHi (e' := .bf16) xs0 _ _ y0 e l))
  exact congrArg (fun s => gate (norm (pre (fun k => x0 (ix2 y0 k)) s) (fun d => x5 (ix2 0 d)) (fun d => x6 (ix2 0 d)))
    (fun k => x7 (ix2 k y1)) (fun k => x1 (ix2 y0 k)) (fun k => x8 (ix2 k y1)) y1) (funext hj)

end Cert.Swi

end
-- ==== Proof.SwiPoint.lean ====
/- The feed-forward call's kernel: what is left after each grid point. -/
module

public import proofs.«01_k».proof.Proof.SwiIn
public import proofs.«01_k».proof.Proof.SwiTile

@[expose] public section

set_option maxRecDepth 16384

noncomputable section

namespace Cert.Swi

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

section
variable (c : Dev nD) (t : Fin cfg0.N)

/-- A block of rows of the argument. -/
abbrev rows : FVec Ideal S512x1024 .bf16 := fun y => (iblk m c 0 t : FVec Ideal S512x1024 .f32) y

/-- What a grid point adds. -/
abbrev add : FVec Ideal S512x1024 .f32 := part (rows m c t) (iblk m c 2 t) (iblk m c 3 t) (iblk m c 4 t)

set_option maxHeartbeats 2000000 in
theorem scratchA (h : t.val % 2 = 0) (h2 : ¬ t.val % 2 = 1) : (outsAt0 m c t.val t.isLt).2.1 = rows m c t := by
  have e := congrArg (fun q => q.2.1) (outsAt0_A m c t h h h2)
  have q1 := runA0 c (grid0.coords t) (ms0_0 t) (hs0_0 t) (ms0_1 t) (hs0_1 t) (ms0_2 t) (hs0_2 t) (ms0_3 t) (hs0_3 t) (ms0_4 t) (hs0_4 t)
  have q2 := q1 (ms0_5 t) (hs0_5 t) (ms0_6 t) (hs0_6 t) (ms0_7 t) (hs0_7 t) (ms0_8 t) (hs0_8 t) (ms0_9 t) (hs0_9 t)
  have q3 := q2 scM0_0 (Memref.isWhole_whole _) scM0_1 (Memref.isWhole_whole _)
  have q4 := q3 ((hcond0_0 t).mpr h) ((hcond0_1 t).mpr h) (hcond0_2 t) (fun h => h2 ((hcond0_3 t).mp h))
  have q5 := q4 (iblk m c 0 t) (iblk m c 1 t) (iblk m c 2 t) (iblk m c 3 t) (iblk m c 4 t)
  have q6 := q5 (iblk m c 5 t) (iblk m c 6 t) (iblk m c 7 t) (iblk m c 8 t)
  exact e.trans q6

set_option maxHeartbeats 2000000 in
theorem sumA (h : t.val % 2 = 0) (h2 : ¬ t.val % 2 = 1) : (outsAt0 m c t.val t.isLt).2.2 = add m c t := by
  have e := congrArg (fun q => q.2.2) (outsAt0_A m c t h h h2)
  have q1 := runA1 c (grid0.coords t) (ms0_0 t) (hs0_0 t) (ms0_1 t) (hs0_1 t) (ms0_2 t) (hs0_2 t) (ms0_3 t) (hs0_3 t) (ms0_4 t) (hs0_4 t)
  have q2 := q1 (ms0_5 t) (hs0_5 t) (ms0_6 t) (hs0_6 t) (ms0_7 t) (hs0_7 t) (ms0_8 t) (hs0_8 t) (ms0_9 t) (hs0_9 t)
  have q3 := q2 scM0_0 (Memref.isWhole_whole _) scM0_1 (Memref.isWhole_whole _)
  have q4 := q3 ((hcond0_0 t).mpr h) ((hcond0_1 t).mpr h) (hcond0_2 t) (fun h => h2 ((hcond0_3 t).mp h))
  have q5 := q4 (iblk m c 0 t) (iblk m c 1 t) (iblk m c 2 t) (iblk m c 3 t) (iblk m c 4 t)
  have q6 := q5 (iblk m c 5 t) (iblk m c 6 t) (iblk m c 7 t) (iblk m c 8 t)
  exact e.trans q6

set_option maxHeartbeats 2000000 in
theorem outB (h : ¬ t.val % 2 = 0) (h2 : t.val % 2 = 1) : (outsAt0 m c t.val t.isLt).1
    = fin (iblk m c 1 t) (iblk m c 7 t) (iblk m c 8 t) (iblk m c 5 t) (iblk m c 6 t) (iblk m c 0 t)
      fun y => (outsAt0 m c (t.val - 1) (Nat.lt_of_le_of_lt (Nat.sub_le _ _) t.isLt)).2.2 y
        + part (outsAt0 m c (t.val - 1) (Nat.lt_of_le_of_lt (Nat.sub_le _ _) t.isLt)).2.1 (iblk m c 2 t) (iblk m c 3 t) (iblk m c 4 t) y := by
  have e := congrArg Prod.fst (outsAt0_B m c t h h h2)
  have q1 := runB c (grid0.coords t) (ms0_0 t) (hs0_0 t) (ms0_1 t) (hs0_1 t) (ms0_2 t) (hs0_2 t) (ms0_3 t) (hs0_3 t) (ms0_4 t) (hs0_4 t)
  have q2 := q1 (ms0_5 t) (hs0_5 t) (ms0_6 t) (hs0_6 t) (ms0_7 t) (hs0_7 t) (ms0_8 t) (hs0_8 t) (ms0_9 t) (hs0_9 t)
  have q3 := q2 scM0_0 (Memref.isWhole_whole _) scM0_1 (Memref.isWhole_whole _)
  have q4 := q3 (fun h' => h ((hcond0_0 t).mp h')) (fun h' => h ((hcond0_1 t).mp h')) (hcond0_2 t) ((hcond0_3 t).mpr h2)
  have q5 := q4 (iblk m c 0 t) (iblk m c 1 t) (iblk m c 2 t) (iblk m c 3 t) (iblk m c 4 t)
  have q6 := q5 (iblk m c 5 t) (iblk m c 6 t) (iblk m c 7 t) (iblk m c 8 t)
  have q7 := q6 (outsAt0 m c (t.val - 1) (Nat.lt_of_le_of_lt (Nat.sub_le _ _) t.isLt)).2.1 (outsAt0 m c (t.val - 1) (Nat.lt_of_le_of_lt (Nat.sub_le _ _) t.isLt)).2.2
  exact e.trans q7
end

end Cert.Swi

end
-- ==== Proof.SwiFinal.lean ====
/- The feed-forward call's kernel: its result. -/
module

public import proofs.«01_k».proof.Proof.SwiPoint
public import proofs.«01_k».proof.Proof.SwiRef

@[expose] public section

set_option maxRecDepth 16384

noncomputable section

namespace Cert.Swi

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- One padded hidden unit's share of a row's result. -/
def padded (c : Dev nD) (P : Fin 32768) (d : Fin 1024) (f : Fin 2816) : EReal :=
  term (fun k => aX m c (ix2 P k)) (fun k => (V m c main_v1 : FVec Ideal S1024x2816 .bf16) (ix2 k f)) (fun k => (V m c main_v3 : FVec Ideal S1024x2816 .bf16) (ix2 k f))
    ((V m c main_v5 : FVec Ideal S2816x1024 .bf16) (ix2 f d))

/-- The padding adds nothing. -/
theorem padded_sum (c : Dev nD) (P : Fin 32768) (d : Fin 1024) : ∑ f : Fin 2816, padded m c P d f
    = ∑ f : Fin 2752, term (fun k => aX m c (ix2 P k)) (fun k => aW1 m c (ix2 k f)) (fun k => aW3 m c (ix2 k f)) (aW2 m c (ix2 f d)) := by
  rw [Fin.sum_univ_two_halves 2752 64 rfl (padded m c P d)]
  refine (congrArg₂ (· + ·) (Finset.sum_congr rfl fun f _ => ?_) (Finset.sum_eq_zero fun f _ => ?_)).trans (add_zero _)
  · unfold padded
    simp only [w1_in m c _ ⟨f.val, by omega⟩ f.isLt, w3_in m c _ ⟨f.val, by omega⟩ f.isLt, w2_in m c ⟨f.val, by omega⟩ d f.isLt]
  · unfold padded term
    rw [w2_out m c ⟨2752 + f.val, by omega⟩ d (by show ¬ 2752 + f.val < 2752; omega)]
    exact mul_zero _

section
variable (c : Dev nD) (s t : Fin cfg0.N)

/-- What a grid point adds, in terms of the arguments. -/
theorem add_at (hst : s.val / 2 = t.val / 2) (r : Fin 512) (d : Fin 1024) (P : Fin 32768) (hP : P.val = 512 * (s.val / 2) + r.val) (F : Fin 1408 → Fin 2816)
    (hF : ∀ f, (F f).val = 1408 * (t.val % 2) + f.val) :
    part (rows m c s) (iblk m c 2 t) (iblk m c 3 t) (iblk m c 4 t) (ix2 r d) = ∑ f, padded m c P d (F f) := by
  have hf : ∀ f, F f = ⟨1408 * (t.val % 2) + f.val, by omega⟩ := fun f => Fin.ext (hF f)
  have hp : P = ⟨512 * (s.val / 2) + r.val, by have := ltN s; omega⟩ := Fin.ext hP
  show half (fun k => rows m c s (ix2 r k)) (iblk m c 2 t) (iblk m c 3 t) (iblk m c 4 t) d = _
  unfold half
  refine Finset.sum_congr rfl fun f _ => ?_
  rw [hf, hp]
  have e0 : (fun k => rows m c s (ix2 r k)) = fun k => aX m c (ix2 ⟨512 * (s.val / 2) + r.val, by have := ltN s; omega⟩ k) := funext fun k => blk0 m c s r k
  have e2 := funext fun k => blk2 m c t k f
  have e3 := funext fun k => blk3 m c t k f
  have e4 := blk4 m c t f d
  exact (congrArg (fun x => term x _ _ _) e0).trans ((congrArg (fun x => term _ x _ _) e2).trans ((congrArg (fun x => term _ _ x _) e3).trans (congrArg (term _ _ _) e4)))

/-- What is written back at the second point of a row block. -/
theorem point (h : t.val % 2 = 1) (r : Fin 512) (d : Fin 1024) (P : Fin 32768) (hP : P.val = 512 * (t.val / 2) + r.val) :
    (outsAt0 m c t.val t.isLt).1 (ix2 r d) = res (aX m c) (aP m c) (aW1 m c) (aW3 m c) (aW2 m c) (aG m c) (aB m c) (aWg m c) (aWp m c) P d := by
  have ht := ltN t
  let s : Fin cfg0.N := ⟨t.val - 1, Nat.lt_of_le_of_lt (Nat.sub_le _ _) t.isLt⟩
  have hs : s.val = t.val - 1 := rfl
  have hst : s.val / 2 = t.val / 2 := by omega
  have e := congrFun (outB m c t (by omega) h) (ix2 r d)
  have f1 := scratchA m c s (by omega) (by omega)
  have f2 := sumA m c s (by omega) (by omega)
  have hsum : ∀ k : Fin 1024, (outsAt0 m c s.val s.isLt).2.2 (ix2 r k) + part (outsAt0 m c s.val s.isLt).2.1 (iblk m c 2 t) (iblk m c 3 t) (iblk m c 4 t) (ix2 r k)
      = ∑ f : Fin 2752, term (fun k => aX m c (ix2 P k)) (fun k => aW1 m c (ix2 k f)) (fun k => aW3 m c (ix2 k f)) (aW2 m c (ix2 f k)) := by
    intro k
    have a1 := add_at m c s s rfl r k P (by omega) (fun f => ⟨f.val, by omega⟩) (fun f => by show f.val = _; omega)
    have a2 := add_at m c s t hst r k P (by omega) (fun f => ⟨1408 + f.val, by omega⟩) (fun f => by show 1408 + f.val = _; omega)
    rw [f1, f2, ← padded_sum m c P k]
    exact (congrArg₂ (· + ·) a1 a2).trans (Fin.sum_univ_two_halves 1408 1408 rfl (padded m c P k)).symm
  have hp : P = ⟨512 * (t.val / 2) + r.val, by omega⟩ := Fin.ext hP
  have x0 : (fun k => (iblk m c 0 t : FVec Ideal S512x1024 .f32) (ix2 r k)) = fun k => aX m c (ix2 P k) := by
    funext k; rw [hp]; exact blk0 m c t r k
  have x1 : (fun k => (iblk m c 1 t : FVec Ideal S512x256 .f32) (ix2 r k)) = fun k => aP m c (ix2 P k) := by
    funext k; rw [hp]; exact blk1 m c t r k
  have x5 := funext fun k => blk5 m c t k
  have x6 := funext fun k => blk6 m c t k
  have x7 := funext fun k => blk7 m c t k d
  have x8 := funext fun k => blk8 m c t k d
  refine e.trans ?_
  show gate (norm (pre (fun k => (iblk m c 0 t : FVec Ideal S512x1024 .f32) (ix2 r k)) (fun k => (outsAt0 m c s.val s.isLt).2.2 (ix2 r k) + part (outsAt0 m c s.val s.isLt).2.1 (iblk m c 2 t) (iblk m c 3 t) (iblk m c 4 t) (ix2 r k)))
      (fun d => (iblk m c 5 t : FVec Ideal S1x1024 .f32) (ix2 0 d)) (fun d => (iblk m c 6 t : FVec Ideal S1x1024 .f32) (ix2 0 d)))
    (fun k => (iblk m c 7 t : FVec Ideal S1024x1024 .bf16) (ix2 k d)) (fun k => (iblk m c 1 t : FVec Ideal S512x256 .f32) (ix2 r k))
    (fun k => (iblk m c 8 t : FVec Ideal S256x1024 .bf16) (ix2 k d)) d = _
  rw [x0, x1, x5, x6, x7, x8, funext hsum]
  rfl
end

/-- The result array. -/
theorem final (c : Dev nD) : (dats m 0 c).arrAt 9 (cfgs 0).N
    = resV (aX m c) (aP m c) (aW1 m c) (aW3 m c) (aW2 m c) (aG m c) (aB m c) (aWg m c) (aWp m c) := by
  refine (dats m 0 c).arrAt_eq_of_covers 9 _ (by decide +kernel) fun t hf y => ?_
  have ht := ltN t
  have hi := (idx t).2.2.2.2.2.2.2.2.2
  have h : t.val % 2 = 1 := (flush0_9 t).mp hf
  blk_simp
  rw [after0_9]
  obtain ⟨r, d, rfl⟩ : ∃ (r : Fin 512) (d : Fin 1024), y = ix2 r d := ⟨y (0 : Fin 2), y (1 : Fin 2), by funext a; fin_cases a <;> rfl⟩
  have hP : 512 * (t.val / 2) + r.val < 32768 := by omega
  refine (point m c t h r d ⟨_, hP⟩ rfl).trans ?_
  refine (congrArg (resV (aX m c) (aP m c) (aW1 m c) (aW3 m c) (aW2 m c) (aG m c) (aB m c) (aWg m c) (aWp m c)) (?_ : _ = ix2 ⟨_, hP⟩ d)).symm
  funext a
  refine Fin.ext ?_
  fin_cases a
  · blk_simp
    refine (congrArg (· * 512 + r.val) (congrFun hi (0 : Fin 2))).trans ?_
    show t.val / 2 * 512 + r.val = 512 * (t.val / 2) + r.val
    omega
  · blk_simp
    refine (congrArg (· * 1024 + d.val) (congrFun hi (1 : Fin 2))).trans ?_
    show 0 * 1024 + d.val = d.val
    omega

end Cert.Swi

end
-- ==== Proof.Even.lean ====
/- The even layer's input projection. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.Even

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- The three results of the reference. -/
abbrev resB (x : FVec Ideal S32768x1024 .f32) (w : FVec Ideal S1024x2048 .bf16) : FVec Ideal S32768x2048 .bf16 :=
  truncf .bf16 (Host.dotGeneral Cert.Reference6Ideal.dot_S32768x1024_S1024x2048_S32768x2048_1_0_0_1_n_n none x w) Cert.Reference6Ideal.Facts₀.bitsLt_bf16_f32

abbrev resF (x : FVec Ideal S32768x1024 .f32) (w : FVec Ideal S1024x640 .bf16) : FVec Ideal S32768x640 .f32 :=
  Host.dotGeneral Cert.Reference6Ideal.dot_S32768x1024_S1024x640_S32768x640_1_0_0_1_n_n none x w

abbrev resV (x : FVec Ideal S32768x1024 .f32) (w : FVec Ideal S512x1024 .bf16) : FVec Ideal S128x512x256 .bf16 :=
  truncf .bf16 (transpose S128x512x256 [0, 2, 1] (shapeCast Cert.Reference6Ideal.S128x256x512 (Host.dotGeneral Cert.Reference6Ideal.dot_S32768x1024_S1024x512_S32768x512_1_0_0_1_n_n none x
    (transpose Cert.Reference6Ideal.S1024x512 [1, 0] w Cert.Reference6Ideal.Facts₀.transposes_S512x1024_S1024x512_1_0)) Cert.Reference6Ideal.Facts₀.shapeCasts_S32768x512_S128x256x512)
    Cert.Reference6Ideal.Facts₀.transposes_S128x256x512_S128x512x256_0_2_1) Cert.Reference6Ideal.Facts₀.bitsLt_bf16_f32

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0, 0] :=
  (by decide +kernel : ∀ t : Fin grid0.N, _)

theorem pointB (c : Dev nD) (t : Fin cfg0.N) (y) : k0_pay2 (iblk m c 0 t) (iblk m c 1 t) y
    = resB (m ((c : Thread nD τ).loc main_arg0)) (m ((c : Thread nD τ).loc main_arg1)) (((cfg0.win 4).blk t).view.emb y) := by
  pointwise [k0_pay2, k0_pay1, resB]
  blk_point [iblk, V, idx t]

theorem pointF (c : Dev nD) (t : Fin cfg0.N) (y) : k0_pay3 (iblk m c 0 t) (iblk m c 2 t) y
    = resF (m ((c : Thread nD τ).loc main_arg0)) (m ((c : Thread nD τ).loc main_arg2)) (((cfg0.win 5).blk t).view.emb y) := by
  pointwise [k0_pay3, k0_pay1, resF]
  blk_point [iblk, V, idx t]

theorem finalB (c : Dev nD) : (dats m 0 c).arrAt 4 (cfgs 0).N = resB (m ((c : Thread nD τ).loc main_arg0)) (m ((c : Thread nD τ).loc main_arg1)) := by
  refine (dats m 0 c).arrAt_eq_of_covers 4 _ (by decide +kernel) fun t _ y => ?_
  blk_simp
  rw [after0_4]; frame_out
  exact pointB m c t y

theorem finalF (c : Dev nD) : (dats m 0 c).arrAt 5 (cfgs 0).N = resF (m ((c : Thread nD τ).loc main_arg0)) (m ((c : Thread nD τ).loc main_arg2)) := by
  refine (dats m 0 c).arrAt_eq_of_covers 5 _ (by decide +kernel) fun t _ y => ?_
  blk_simp
  rw [after0_5]; frame_out
  exact pointF m c t y

theorem resV_at (x : FVec Ideal S32768x1024 .f32) (w : FVec Ideal S512x1024 .bf16) (n : Fin 128) (e : Fin 512) (r : Fin 256) :
    resV x w (ix3 n e r) = ∑ k : Fin 1024, x (ix2 ⟨n.val * 256 + r.val, by omega⟩ k) * w (ix2 e k) := by
  pointwise [resV]

theorem pay4_at (x : FVec Ideal S512x1024 .f32) (w : FVec Ideal S512x1024 .bf16) (e : Fin 512) (r : Fin 256) :
    k0_pay4 x w (ix3 0 e r) = ∑ k : Fin 1024, w (ix2 e k) * x (ix2 ⟨r.val, by omega⟩ k) := by
  pointwise [k0_pay4, k0_pay1]

theorem pay5_at (x : FVec Ideal S512x1024 .f32) (w : FVec Ideal S512x1024 .bf16) (e : Fin 512) (r : Fin 256) :
    k0_pay5 x w (ix3 0 e r) = ∑ k : Fin 1024, w (ix2 e k) * x (ix2 ⟨256 + r.val, by omega⟩ k) := by
  pointwise [k0_pay5, k0_pay1]

/-- The kernel's blocks of the values at an element. -/
def vblk (x w : FVec Ideal S512x1024 .f32) : FVec Ideal S2x512x256 .bf16 := fun y =>
  ∑ k : Fin 1024, w (ix2 (y (1 : Fin 3)) k) * x (ix2 ⟨256 * (y (0 : Fin 3)).val + (y (2 : Fin 3)).val, by
    have h0 : (y (0 : Fin 3)).val < 2 := (y (0 : Fin 3)).isLt
    have h2 : (y (2 : Fin 3)).val < 256 := (y (2 : Fin 3)).isLt
    omega⟩ k)

theorem out6 (x0 : FVec Ideal S512x1024 .f32) (x1 : FVec Ideal S1024x2048 .bf16) (x2 : FVec Ideal S1024x640 .bf16) (x3 : FVec Ideal S512x1024 .bf16) :
    out0_6 (F := Ideal) x0 x1 x2 x3 = vblk x0 x3 := by
  frame_out
  funext y
  refine View.canon_apply_of_pieces (Val := Elt Ideal) (e := .bf16) (vblk x0 x3) _ ?_ y (cover0_6 _ _ y)
  intro p hp q
  simp only [List.mem_cons, List.mem_singleton, List.not_mem_nil, or_false] at hp
  rcases hp with rfl | rfl
  · idx_vars q
    obtain rfl : q0 = 0 := Subsingleton.elim _ _
    have h : (Rect.unit (s := S2x512x256) ![1, 0, 0] S1x512x256.size inb_S2x512x256_S1x512x256_1_0_0).emb (ix3 0 q1 q2) = ix3 1 q1 q2 := by
      funext a; fin_cases a
      · rfl
      · exact Fin.ext ((Nat.zero_add _).trans (Nat.one_mul q1.val))
      · exact Fin.ext ((Nat.zero_add _).trans (Nat.one_mul q2.val))
    exact (pay5_at x0 x3 q1 q2).trans (congrArg (vblk x0 x3) h).symm
  · idx_vars q
    obtain rfl : q0 = 0 := Subsingleton.elim _ _
    have h : (Rect.unit (s := S2x512x256) ![0, 0, 0] S1x512x256.size inb_S2x512x256_S1x512x256_0_0_0).emb (ix3 0 q1 q2) = ix3 0 q1 q2 := by
      funext a; fin_cases a
      · rfl
      · exact Fin.ext ((Nat.zero_add _).trans (Nat.one_mul q1.val))
      · exact Fin.ext ((Nat.zero_add _).trans (Nat.one_mul q2.val))
    refine (pay4_at x0 x3 q1 q2).trans (Eq.trans ?_ (congrArg (vblk x0 x3) h).symm)
    refine Finset.sum_congr rfl fun k _ => ?_
    exact congrArg (fun R => x3 (ix2 q1 k) * x0 (ix2 R k)) (Fin.ext (show q2.val = 256 * 0 + q2.val by omega))

theorem blk0 (c : Dev nD) (t : Fin cfg0.N) (r : Fin 512) (k : Fin 1024) : (iblk m c 0 t : FVec Ideal S512x1024 .f32) (ix2 r k)
    = (m ((c : Thread nD τ).loc main_arg0) : FVec Ideal S32768x1024 .f32) (ix2 ⟨512 * t.val + r.val, by have : t.val < 64 := t.isLt; omega⟩ k) := by
  have ht : t.val < 64 := t.isLt
  blk_ext [iblk, V, idx t]

theorem blk3 (c : Dev nD) (t : Fin cfg0.N) (e : Fin 512) (k : Fin 1024) : (iblk m c 3 t : FVec Ideal S512x1024 .bf16) (ix2 e k)
    = (m ((c : Thread nD τ).loc main_arg3) : FVec Ideal S512x1024 .bf16) (ix2 e k) := by
  blk_ext [iblk, V, idx t]

theorem pointV (c : Dev nD) (t : Fin cfg0.N) (n : Fin 2) (e : Fin 512) (r : Fin 256) (N : Fin 128) (hN : N.val = 2 * t.val + n.val) :
    vblk (iblk m c 0 t) (iblk m c 3 t) (ix3 n e r) = resV (m ((c : Thread nD τ).loc main_arg0)) (m ((c : Thread nD τ).loc main_arg3)) (ix3 N e r) := by
  rw [resV_at]
  unfold vblk
  refine Finset.sum_congr rfl fun k _ => ?_
  refine (mul_comm _ _).trans ?_
  refine congrArg₂ (· * ·) ((blk0 m c t _ k).trans (congrArg (fun R => (m ((c : Thread nD τ).loc main_arg0) : FVec Ideal S32768x1024 .f32) (ix2 R k)) (Fin.ext ?_))) (blk3 m c t e k)
  show 512 * t.val + (256 * n.val + r.val) = N.val * 256 + r.val
  omega

theorem finalV (c : Dev nD) : (dats m 0 c).arrAt 6 (cfgs 0).N = resV (m ((c : Thread nD τ).loc main_arg0)) (m ((c : Thread nD τ).loc main_arg3)) := by
  refine (dats m 0 c).arrAt_eq_of_covers 6 _ (by decide +kernel) fun t _ y => ?_
  have ht : t.val < 64 := t.isLt
  have hi := (idx t).2.2.2.2.2.2
  blk_simp
  rw [after0_6, out6]
  obtain ⟨n, e, r, rfl⟩ : ∃ (n : Fin 2) (e : Fin 512) (r : Fin 256), y = ix3 n e r := ⟨y (0 : Fin 3), y (1 : Fin 3), y (2 : Fin 3), by funext a; fin_cases a <;> rfl⟩
  have hN : 2 * t.val + n.val < 128 := by omega
  refine (pointV m c t n e r ⟨_, hN⟩ rfl).trans ?_
  refine (congrArg (resV (m ((c : Thread nD τ).loc main_arg0)) (m ((c : Thread nD τ).loc main_arg3))) (?_ : _ = ix3 ⟨_, hN⟩ e r)).symm
  · funext a
    refine Fin.ext ?_
    fin_cases a
    · blk_simp
      refine (congrArg (· * 2 + n.val) (congrFun hi (0 : Fin 3))).trans ?_
      show t.val * 2 + n.val = 2 * t.val + n.val
      omega
    · blk_simp
      refine (congrArg (· * 512 + e.val) (congrFun hi (1 : Fin 3))).trans ?_
      show 0 * 512 + e.val = e.val
      omega
    · blk_simp
      refine (congrArg (· * 256 + r.val) (congrFun hi (2 : Fin 3))).trans ?_
      show 0 * 256 + r.val = r.val
      omega

end Cert.Even

end
-- ==== Proof.OutP.lean ====
/- The even layer's out projection, residual and layer norm. -/
module

public import proofs.«01_k».proof.Proof.SwiPay
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Claim

@[expose] public section

set_option maxRecDepth 16384

noncomputable section

namespace Cert.OutP

open Idealize.ShloMosaic Idealize.ShloMosaic.TcCoe Idealize.SL.Sem
open Idealize.ShloMosaic.Pipeline (Dat)

section
open Cert.Reference7Ideal Cert.Reference7Ideal.Gen

/-- A row of the mixers' two halves times a column of the weight. -/
def mixRow (oa ob : Fin 512 → EReal) (w : Fin 1024 → EReal) : EReal :=
  (∑ k : Fin 512, oa k * w ⟨k.val, by omega⟩) + ∑ k : Fin 512, ob k * w ⟨512 + k.val, by omega⟩

variable (oa ob : FVec Ideal S32768x512 .bf16) (x : FVec Ideal S32768x1024 .f32) (w : FVec Ideal S1024x1024 .f32) (g b : FVec Ideal S1024 .f32)

def catA : FVec Ideal S32768x1024 .f32 :=
  extf .f32 (concatenate S32768x1024 1 [⟨S32768x512, oa⟩, ⟨S32768x512, ob⟩] concatenates_S32768x512_S32768x512_S32768x1024_d1) bitsLt_bf16_f32

def sumA (u : FVec Ideal S32768x1024 .f32) : FVec Ideal S32768x1024 .f32 :=
  addf (mulf (broadcastInDim S32768x1024 ![] bcast_S_S32768x1024 (constant S_ .f32 0x3FB504F3#32)) x) (Host.dotGeneral dot_S32768x1024_S1024x1024_S32768x1024_1_0_0_1_n_n none u w)

theorem res_main (m : (ℓ : Loc nD τ sig) → Buf (Elt Ideal) ℓ) (c : Dev nD) : Cert.Reference7Ideal.Value.res_main_v27 m c
    = Cert.Swi.normA (m ((c.tc : Thread nD τ).loc main_arg4)) (m ((c.tc : Thread nD τ).loc main_arg5))
        (Cert.Swi.cenA (sumA (m ((c.tc : Thread nD τ).loc main_arg2)) (m ((c.tc : Thread nD τ).loc main_arg3))
          (catA (m ((c.tc : Thread nD τ).loc main_arg0)) (m ((c.tc : Thread nD τ).loc main_arg1))))) := rfl

theorem cat_lo (P : Fin 32768) (k : Fin 1024) (h : k.val < 512) : catA oa ob (ix2 P k) = oa (ix2 P ⟨k, h⟩) := by
  pointwise [catA]
  rw [dif_pos h]

theorem cat_hi (P : Fin 32768) (k : Fin 1024) (h : ¬ k.val < 512) : catA oa ob (ix2 P k) = ob (ix2 P ⟨k - 512, by omega⟩) := by
  pointwise [catA]
  rw [dif_neg h]

theorem sumA_at (u : FVec Ideal S32768x1024 .f32) (P : Fin 32768) (d : Fin 1024) :
    sumA x w u (ix2 P d) = Cert.Swi.pre (fun k => x (ix2 P k)) (fun d => ∑ k : Fin 1024, u (ix2 P k) * w (ix2 k d)) d := by
  pointwise [sumA, Cert.Swi.pre]

theorem cat_sum (P : Fin 32768) (d : Fin 1024) : (∑ k : Fin 1024, catA oa ob (ix2 P k) * w (ix2 k d))
    = mixRow (fun k => oa (ix2 P k)) (fun k => ob (ix2 P k)) (fun k => w (ix2 k d)) := by
  rw [Fin.sum_univ_two_halves 512 512 rfl (fun k : Fin 1024 => catA oa ob (ix2 P k) * w (ix2 k d))]
  refine congrArg₂ (· + ·) (Finset.sum_congr rfl fun k _ => ?_) (Finset.sum_congr rfl fun k _ => ?_)
  · rw [cat_lo oa ob P ⟨k.val, by omega⟩ k.isLt]
  · rw [cat_hi oa ob P ⟨512 + k.val, by omega⟩ (by show ¬ 512 + k.val < 512; omega)]
    exact congrArg (fun r => ob (ix2 P r) * w (ix2 ⟨512 + k.val, by omega⟩ d)) (Fin.ext (show 512 + k.val - 512 = k.val by omega))

/-- The call's result. -/
def res (P : Fin 32768) (d : Fin 1024) : EReal :=
  Cert.Swi.norm (Cert.Swi.pre (fun k => x (ix2 P k)) (fun d => mixRow (fun k => oa (ix2 P k)) (fun k => ob (ix2 P k)) (fun k => w (ix2 k d))))
    (fun d => g (ix1 d)) (fun d => b (ix1 d)) d

def resV : FVec Ideal S32768x1024 .f32 := fun j => res oa ob x w g b (j 0) (j 1)

theorem ref_eq : Cert.Swi.normA g b (Cert.Swi.cenA (sumA x w (catA oa ob))) = resV oa ob x w g b := by
  funext j; idx_vars j
  show Cert.Swi.normA g b (Cert.Swi.cenA (sumA x w (catA oa ob))) (ix2 j0 j1) = res oa ob x w g b j0 j1
  simp only [Cert.Swi.normA_at, Cert.Swi.meanA_at, Cert.Swi.sq_at, Cert.Swi.cenA_at, sumA_at, cat_sum, res, Cert.Swi.norm]
end

open Cert.Kernel7Ideal Cert.Kernel7Ideal.Gen

/-- The kernel's product. -/
def mixK (oa ob : FVec Ideal S512x512 .bf16) (wa wb : FVec Ideal S512x1024 .bf16) : FVec Ideal S512x1024 .f32 :=
  addf (matmul dot_S512x512_S512x1024_S512x1024_1_0_0_1_n_n none oa (shapeCast S512x1024 wa shapeCasts_S512x1024_S512x1024) (constant S512x1024 .f32 0x00000000#32))
    (matmul dot_S512x512_S512x1024_S512x1024_1_0_0_1_n_n none ob (shapeCast S512x1024 wb shapeCasts_S512x1024_S512x1024) (constant S512x1024 .f32 0x00000000#32))

theorem mixK_at (oa ob : FVec Ideal S512x512 .bf16) (wa wb : FVec Ideal S512x1024 .bf16) (r : Fin 512) (d : Fin 1024) :
    mixK oa ob wa wb (ix2 r d) = (∑ k : Fin 512, oa (ix2 r k) * wa (ix2 k d)) + ∑ k : Fin 512, ob (ix2 r k) * wb (ix2 k d) := by
  pointwise [mixK]

theorem pay1_eq (oa ob : FVec Ideal S512x512 .bf16) (wa wb : FVec Ideal S512x1024 .bf16) (x : FVec Ideal S512x1024 .f32) (g b : FVec Ideal S1x1024 .f32) :
    k0_pay1 (F := Ideal) oa wa ob wb x g b = Cert.Swi.normK g b (Cert.Swi.cenK (Cert.Swi.preK x (mixK oa ob wa wb))) := rfl

variable (m : (ℓ : Loc nD τ sig) → Buf (Elt Ideal) ℓ)

abbrev aA (c : Dev nD) : FVec Ideal S32768x512 .bf16 := m ((c : Thread nD τ).loc main_arg0)
abbrev aB (c : Dev nD) : FVec Ideal S32768x512 .bf16 := m ((c : Thread nD τ).loc main_arg1)
abbrev aX (c : Dev nD) : FVec Ideal S32768x1024 .f32 := m ((c : Thread nD τ).loc main_arg2)
abbrev aW (c : Dev nD) : FVec Ideal S1024x1024 .f32 := m ((c : Thread nD τ).loc main_arg3)
abbrev aG (c : Dev nD) : FVec Ideal S1024 .f32 := m ((c : Thread nD τ).loc main_arg4)
abbrev aC (c : Dev nD) : FVec Ideal S1024 .f32 := m ((c : Thread nD τ).loc main_arg5)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![t.val, 0] :=
  (by decide +kernel : ∀ t : Fin grid0.N, _)

theorem V_v1 (c : Dev nD) : (V m c main_v1 : FVec Ideal S512x1024 .bf16) = truncf .bf16 (extractStridedSlice S512x1024 ![0, 0] (aW m c) slices_S1024x1024_S512x1024_0_0) bitsLt_bf16_f32 := by
  show StableHlo.after hostOps0 _ (Proc.devRef .tc main_v1) = _
  after_results

theorem V_v3 (c : Dev nD) : (V m c main_v3 : FVec Ideal S512x1024 .bf16) = truncf .bf16 (extractStridedSlice S512x1024 ![512, 0] (aW m c) slices_S1024x1024_S512x1024_512_0) bitsLt_bf16_f32 := by
  show StableHlo.after hostOps0 _ (Proc.devRef .tc main_v3) = _
  after_results

theorem V_v4 (c : Dev nD) : (V m c main_v4 : FVec Ideal S1x1024 .f32) = shapeCast S1x1024 (aG m c) shapeCasts_S1024_S1x1024 := by
  show StableHlo.after hostOps0 _ (Proc.devRef .tc main_v4) = _
  after_results
  rfl

theorem V_v5 (c : Dev nD) : (V m c main_v5 : FVec Ideal S1x1024 .f32) = shapeCast S1x1024 (aC m c) shapeCasts_S1024_S1x1024 := by
  show StableHlo.after hostOps0 _ (Proc.devRef .tc main_v5) = _
  after_results
  rfl

section
variable (c : Dev nD) (t : Fin cfg0.N)

theorem ltN : t.val < 64 := t.isLt

theorem blk0 (r k : Fin 512) : (iblk m c 0 t : FVec Ideal S512x512 .bf16) (ix2 r k) = aA m c (ix2 ⟨512 * t.val + r, by have := ltN t; omega⟩ k) := by
  have ht := ltN t
  blk_ext [iblk, V_main_arg0, idx t]

theorem blk1 (r k : Fin 512) : (iblk m c 1 t : FVec Ideal S512x512 .bf16) (ix2 r k) = aB m c (ix2 ⟨512 * t.val + r, by have := ltN t; omega⟩ k) := by
  have ht := ltN t
  blk_ext [iblk, V_main_arg1, idx t]

theorem blk2 (r : Fin 512) (k : Fin 1024) : (iblk m c 2 t : FVec Ideal S512x1024 .f32) (ix2 r k) = aX m c (ix2 ⟨512 * t.val + r, by have := ltN t; omega⟩ k) := by
  have ht := ltN t
  blk_ext [iblk, V_main_arg2, idx t]

theorem blk3 (k : Fin 512) (d : Fin 1024) : (iblk m c 3 t : FVec Ideal S512x1024 .bf16) (ix2 k d) = aW m c (ix2 ⟨k.val, by omega⟩ d) := by
  have h : (iblk m c 3 t : FVec Ideal S512x1024 .bf16) (ix2 k d) = (V m c main_v1 : FVec Ideal S512x1024 .bf16) (ix2 k d) := by
    blk_ext [iblk, idx t]
  rw [h, V_v1]
  pointwise

theorem blk4 (k : Fin 512) (d : Fin 1024) : (iblk m c 4 t : FVec Ideal S512x1024 .bf16) (ix2 k d) = aW m c (ix2 ⟨512 + k.val, by omega⟩ d) := by
  have h : (iblk m c 4 t : FVec Ideal S512x1024 .bf16) (ix2 k d) = (V m c main_v3 : FVec Ideal S512x1024 .bf16) (ix2 k d) := by
    blk_ext [iblk, idx t]
  rw [h, V_v3]
  pointwise

theorem blk5 (d : Fin 1024) : (iblk m c 5 t : FVec Ideal S1x1024 .f32) (ix2 0 d) = aG m c (ix1 d) := by
  have h : (iblk m c 5 t : FVec Ideal S1x1024 .f32) (ix2 0 d) = (V m c main_v4 : FVec Ideal S1x1024 .f32) (ix2 0 d) := by
    blk_ext [iblk, idx t]
  rw [h, V_v4]
  pointwise

theorem blk6 (d : Fin 1024) : (iblk m c 6 t : FVec Ideal S1x1024 .f32) (ix2 0 d) = aC m c (ix1 d) := by
  have h : (iblk m c 6 t : FVec Ideal S1x1024 .f32) (ix2 0 d) = (V m c main_v5 : FVec Ideal S1x1024 .f32) (ix2 0 d) := by
    blk_ext [iblk, idx t]
  rw [h, V_v5]
  pointwise

theorem point (r : Fin 512) (d : Fin 1024) (P : Fin 32768) (hP : P.val = 512 * t.val + r.val) :
    k0_pay1 (F := Ideal) (iblk m c 0 t) (iblk m c 3 t) (iblk m c 1 t) (iblk m c 4 t) (iblk m c 2 t) (iblk m c 5 t) (iblk m c 6 t) (ix2 r d)
      = res (aA m c) (aB m c) (aX m c) (aW m c) (aG m c) (aC m c) P d := by
  have hp : P = ⟨512 * t.val + r.val, by have := ltN t; omega⟩ := Fin.ext hP
  rw [pay1_eq]
  refine (Cert.Swi.midK_at (iblk m c 2 t) (mixK (iblk m c 0 t) (iblk m c 1 t) (iblk m c 3 t) (iblk m c 4 t)) (iblk m c 5 t) (iblk m c 6 t) r d).trans ?_
  have e2 : (fun k => (iblk m c 2 t : FVec Ideal S512x1024 .f32) (ix2 r k)) = fun k => aX m c (ix2 P k) := by
    funext k; rw [hp]; exact blk2 m c t r k
  have es : (fun d => mixK (iblk m c 0 t) (iblk m c 1 t) (iblk m c 3 t) (iblk m c 4 t) (ix2 r d))
      = fun d => mixRow (fun k => aA m c (ix2 P k)) (fun k => aB m c (ix2 P k)) (fun k => aW m c (ix2 k d)) := by
    funext d
    rw [mixK_at, hp]
    exact congrArg₂ (· + ·) (Finset.sum_congr rfl fun k _ => congrArg₂ (· * ·) (blk0 m c t r k) (blk3 m c t k d))
      (Finset.sum_congr rfl fun k _ => congrArg₂ (· * ·) (blk1 m c t r k) (blk4 m c t k d))
  have e5 := funext fun k => blk5 m c t k
  have e6 := funext fun k => blk6 m c t k
  rw [e2, es, e5, e6]
  rfl
end

theorem final (c : Dev nD) : (dats m 0 c).arrAt 7 (cfgs 0).N = resV (aA m c) (aB m c) (aX m c) (aW m c) (aG m c) (aC m c) := by
  refine (dats m 0 c).arrAt_eq_of_covers 7 _ (by decide +kernel) fun t hf y => ?_
  have ht := ltN t
  have hi := (idx t).2.2.2.2.2.2.2
  blk_simp
  rw [after0_7]; frame_out
  obtain ⟨r, d, rfl⟩ : ∃ (r : Fin 512) (d : Fin 1024), y = ix2 r d := ⟨y (0 : Fin 2), y (1 : Fin 2), by funext a; fin_cases a <;> rfl⟩
  have hP : 512 * t.val + r.val < 32768 := by omega
  refine (point m c t r d ⟨_, hP⟩ rfl).trans ?_
  refine (congrArg (resV (aA m c) (aB m c) (aX m c) (aW m c) (aG m c) (aC m c)) (?_ : _ = ix2 ⟨_, hP⟩ d)).symm
  funext a
  refine Fin.ext ?_
  fin_cases a
  · blk_simp
    refine (congrArg (· * 512 + r.val) (congrFun hi (0 : Fin 2))).trans ?_
    show t.val * 512 + r.val = 512 * t.val + r.val
    omega
  · blk_simp
    refine (congrArg (· * 1024 + d.val) (congrFun hi (1 : Fin 2))).trans ?_
    show 0 * 1024 + d.val = d.val
    omega

end Cert.OutP

end
-- ==== Proof.Comb.lean ====
/- The combination of the experts' rows, the residual with the layer norm and the gated embedding. -/
module

public import proofs.«01_k».proof.Proof.SwiPay
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Routing.OpsSet
public import Idealize.ShloMosaic.Lib.Routing.OpsPair
public import Idealize.ShloMosaic.Lib.Claim

@[expose] public section

set_option maxRecDepth 16384

noncomputable section

namespace Cert.Comb

open Idealize.ShloMosaic Idealize.ShloMosaic.TcCoe Idealize.SL.Sem
open Idealize.ShloMosaic.Pipeline (Dat)

section
open Cert.Reference5Ideal Cert.Reference5Ideal.Gen

variable (x : FVec Ideal S32768x1024 .f32) (y : FVec Ideal S65536x1024 .bf16) (q : FVec Ideal S32768x2 .f32) (p : FVec Ideal S32768x256 .f32)
  (g b : FVec Ideal S1024 .f32) (wg : FVec Ideal S1024x1024 .f32) (wp : FVec Ideal S256x1024 .f32)

/-- The rows of the tokens' first and second experts. -/
def fstA : FVec Ideal S32768x1024 .f32 :=
  shapeCast _ (extractStridedSlice S1x32768x1024 ![0, 0, 0] (extf .f32 (shapeCast _ y shapeCasts_S65536x1024_S2x32768x1024) bitsLt_bf16_f32) slices_S2x32768x1024_S1x32768x1024_0_0_0) shapeCasts_S1x32768x1024_S32768x1024

def sndA : FVec Ideal S32768x1024 .f32 :=
  shapeCast _ (extractStridedSlice S1x32768x1024 ![1, 0, 0] (extf .f32 (shapeCast _ y shapeCasts_S65536x1024_S2x32768x1024) bitsLt_bf16_f32) slices_S2x32768x1024_S1x32768x1024_1_0_0) shapeCasts_S1x32768x1024_S32768x1024

def mixA : FVec Ideal S32768x1024 .f32 :=
  addf (mulf (fstA y) (broadcastInDim S32768x1024 ![0, 1] bcast_S32768x1_S32768x1024_0_1 (extractStridedSlice S32768x1 ![0, 0] q slices_S32768x2_S32768x1_0_0)))
    (mulf (sndA y) (broadcastInDim S32768x1024 ![0, 1] bcast_S32768x1_S32768x1024_0_1 (extractStridedSlice S32768x1 ![0, 1] q slices_S32768x2_S32768x1_0_1)))

def sumA (u : FVec Ideal S32768x1024 .f32) : FVec Ideal S32768x1024 .f32 :=
  addf (mulf (broadcastInDim S32768x1024 ![] bcast_S_S32768x1024 (constant S_ .f32 0x3FB504F3#32)) x) u

theorem res_main (m : (ℓ : Loc nD τ sig) → Buf (Elt Ideal) ℓ) (c : Dev nD) : Cert.Reference5Ideal.Value.res_main_v47 m c
    = Cert.Swi.gateA (m ((c.tc : Thread nD τ).loc main_arg3)) (m ((c.tc : Thread nD τ).loc main_arg6)) (m ((c.tc : Thread nD τ).loc main_arg7))
        (Cert.Swi.normA (m ((c.tc : Thread nD τ).loc main_arg4)) (m ((c.tc : Thread nD τ).loc main_arg5))
          (Cert.Swi.cenA (sumA (m ((c.tc : Thread nD τ).loc main_arg0)) (mixA (m ((c.tc : Thread nD τ).loc main_arg1)) (m ((c.tc : Thread nD τ).loc main_arg2)))))) := rfl

theorem fst_at (P : Fin 32768) (d : Fin 1024) : fstA y (ix2 P d) = y (ix2 ⟨P, by omega⟩ d) := by
  pointwise [fstA]

theorem snd_at (P : Fin 32768) (d : Fin 1024) : sndA y (ix2 P d) = y (ix2 ⟨32768 + P, by omega⟩ d) := by
  pointwise [sndA]

/-- A row of the combination. -/
def mixRow (P : Fin 32768) (d : Fin 1024) : EReal :=
  y (ix2 ⟨P, by omega⟩ d) * q (ix2 P 0) + y (ix2 ⟨32768 + P, by omega⟩ d) * q (ix2 P 1)

theorem mixA_at (P : Fin 32768) (d : Fin 1024) : mixA y q (ix2 P d) = mixRow y q P d := by
  have h : mixA y q (ix2 P d) = fstA y (ix2 P d) * q (ix2 P 0) + sndA y (ix2 P d) * q (ix2 P 1) := by
    pointwise [mixA]
  rw [h, fst_at, snd_at, mixRow]

theorem sumA_at (u : FVec Ideal S32768x1024 .f32) (P : Fin 32768) (d : Fin 1024) :
    sumA x u (ix2 P d) = Cert.Swi.pre (fun k => x (ix2 P k)) (fun d => u (ix2 P d)) d := by
  pointwise [sumA, Cert.Swi.pre]

/-- A row of the normed sum. -/
def mid (P : Fin 32768) (d : Fin 1024) : EReal :=
  Cert.Swi.norm (Cert.Swi.pre (fun k => x (ix2 P k)) (mixRow y q P)) (fun d => g (ix1 d)) (fun d => b (ix1 d)) d

/-- The call's result. -/
def res (P : Fin 32768) (d : Fin 1024) : EReal :=
  Cert.Swi.gate (mid x y q g b P) (fun k => wg (ix2 k d)) (fun k => p (ix2 P k)) (fun k => wp (ix2 k d)) d

def resV : FVec Ideal S32768x1024 .f32 := fun j => res x y q p g b wg wp (j 0) (j 1)

theorem mid_at (P : Fin 32768) (d : Fin 1024) : Cert.Swi.normA g b (Cert.Swi.cenA (sumA x (mixA y q))) (ix2 P d) = mid x y q g b P d := by
  simp only [Cert.Swi.normA_at, Cert.Swi.meanA_at, Cert.Swi.sq_at, Cert.Swi.cenA_at, sumA_at, mixA_at, mid, Cert.Swi.norm]

theorem ref_eq : Cert.Swi.gateA p wg wp (Cert.Swi.normA g b (Cert.Swi.cenA (sumA x (mixA y q)))) = resV x y q p g b wg wp := by
  funext j; idx_vars j
  show _ = res x y q p g b wg wp j0 j1
  refine (Cert.Swi.gateA_at p wg wp _ j0 j1).trans ?_
  simp only [mid_at, res]
end

open Cert.Kernel5Ideal Cert.Kernel5Ideal.Gen

/-- The kernel's combination. -/
def mixK (gt : FVec Ideal S512x128 .f32) (y0 y1 : FVec Ideal S512x1024 .bf16) : FVec Ideal S512x1024 .f32 :=
  addf (mulf (extf .f32 y0 bitsLt_bf16_f32) (broadcastTo S512x1024 (extractStridedSlice S512x1 ![0, 0] (shapeCast S512x128 gt shapeCasts_S512x128_S512x128) slices_S512x128_o0_0_S512x1) broadcasts_S512x1_S512x1024))
    (mulf (extf .f32 y1 bitsLt_bf16_f32) (broadcastTo S512x1024 (extractStridedSlice S512x1 ![0, 1] (shapeCast S512x128 gt shapeCasts_S512x128_S512x128) slices_S512x128_o0_1_S512x1) broadcasts_S512x1_S512x1024))

theorem mixK_at (gt : FVec Ideal S512x128 .f32) (y0 y1 : FVec Ideal S512x1024 .bf16) (r : Fin 512) (d : Fin 1024) :
    mixK gt y0 y1 (ix2 r d) = y0 (ix2 r d) * gt (ix2 r 0) + y1 (ix2 r d) * gt (ix2 r 1) := by
  pointwise [mixK]

theorem pay1_eq (x : FVec Ideal S512x1024 .f32) (gt : FVec Ideal S512x128 .f32) (y0 y1 : FVec Ideal S512x1024 .bf16) (p : FVec Ideal S512x256 .f32) (g b : FVec Ideal S1x1024 .f32)
    (wg : FVec Ideal S1024x1024 .bf16) (wp : FVec Ideal S256x1024 .bf16) :
    k0_pay1 (F := Ideal) p (k0_pay2 g) (k0_pay3 b) (k0_pay4 wg) (k0_pay5 wp) (k0_pay6 gt y0 y1 x) (k0_pay7 gt y0 y1 x) (k0_pay8 (F := Ideal))
      = Cert.Kernel3Ideal.Gen.k0_pay6 p (Cert.Kernel3Ideal.Gen.k0_pay7 wg) (Cert.Kernel3Ideal.Gen.k0_pay8 wp)
          (Cert.Swi.normK g b (Cert.Swi.cenK (Cert.Swi.preK x (mixK gt y0 y1)))) := rfl

/-- A store of the gates' columns at offset 0: the stored columns hold the gates. -/
theorem scatter_gate (z : FVec Ideal S32768x128 .f32) (w : IVec S1 32) (hw : ∀ i, w i = 0#32) (q : FVec Ideal S32768x2 .f32) (P : Fin 32768) (e : Fin 2) :
    Host.scatter scatter_S32768x128_S1_S32768x2_01_n_1_0 (fun _ b => b) z w q (ix2 P ⟨e.val, by omega⟩) = q (ix2 P e) := by
  have hs : ∀ k a, ScatterDims.start scatter_S32768x128_S1_S32768x2_01_n_1_0 k w a = 0 := by
    intro k a
    unfold ScatterDims.start
    split
    · rw [hw]; rfl
    · rfl
  have w0 : ∀ k : S32768x2.Idx, ScatterDims.window scatter_S32768x128_S1_S32768x2_01_n_1_0 k 0 = (k 0).val := fun k => rfl
  have w1 : ∀ k : S32768x2.Idx, ScatterDims.window scatter_S32768x128_S1_S32768x2_01_n_1_0 k 1 = (k 1).val := fun k => rfl
  refine Routing.scatter_set_hit _ z w q _ _ (fun k hk => congrArg q ?_) (ix2 P e) ?_
  · have h := (Routing.resultIdx?_eq_some _ k w _).1 hk
    have h0 := h 0
    have h1 := h 1
    rw [hs, w0, zero_add] at h0
    rw [hs, w1, zero_add] at h1
    funext a
    fin_cases a
    · exact Fin.ext (Nat.cast_inj.1 h0)
    · exact Fin.ext (Nat.cast_inj.1 h1)
  · refine (Routing.resultIdx?_eq_some _ _ w _).2 fun a => ?_
    rw [hs, zero_add]
    fin_cases a <;> rfl

variable (m : (ℓ : Loc nD τ sig) → Buf (Elt Ideal) ℓ)

abbrev aX (c : Dev nD) : FVec Ideal S32768x1024 .f32 := m ((c : Thread nD τ).loc main_arg0)
abbrev aY (c : Dev nD) : FVec Ideal S65536x1024 .bf16 := m ((c : Thread nD τ).loc main_arg1)
abbrev aQ (c : Dev nD) : FVec Ideal S32768x2 .f32 := m ((c : Thread nD τ).loc main_arg2)
abbrev aP (c : Dev nD) : FVec Ideal S32768x256 .f32 := m ((c : Thread nD τ).loc main_arg3)
abbrev aG (c : Dev nD) : FVec Ideal S1024 .f32 := m ((c : Thread nD τ).loc main_arg4)
abbrev aB (c : Dev nD) : FVec Ideal S1024 .f32 := m ((c : Thread nD τ).loc main_arg5)
abbrev aWg (c : Dev nD) : FVec Ideal S1024x1024 .f32 := m ((c : Thread nD τ).loc main_arg6)
abbrev aWp (c : Dev nD) : FVec Ideal S256x1024 .f32 := m ((c : Thread nD τ).loc main_arg7)

theorem idx : ∀ t : Fin cfg0.N, win0_0.index t = ![t.val, 0] ∧ win0_1.index t = ![t.val, 0] ∧ win0_2.index t = ![t.val + 64, 0]
    ∧ win0_3.index t = ![t.val, 0] ∧ win0_4.index t = ![t.val, 0] ∧ win0_5.index t = ![0, 0] ∧ win0_6.index t = ![0, 0] ∧ win0_7.index t = ![0, 0]
    ∧ win0_8.index t = ![0, 0] ∧ win0_9.index t = ![t.val, 0] :=
  (by decide +kernel : ∀ t : Fin grid0.N, _)

theorem V_v0 (c : Dev nD) : (V m c main_v0 : FVec Ideal S1x1024 .f32) = shapeCast S1x1024 (aG m c) shapeCasts_S1024_S1x1024 := by
  show StableHlo.after hostOps0 _ (Proc.devRef .tc main_v0) = _
  after_results
  rfl

theorem V_v1 (c : Dev nD) : (V m c main_v1 : FVec Ideal S1x1024 .f32) = shapeCast S1x1024 (aB m c) shapeCasts_S1024_S1x1024 := by
  show StableHlo.after hostOps0 _ (Proc.devRef .tc main_v1) = _
  after_results
  rfl

theorem V_v2 (c : Dev nD) : (V m c main_v2 : FVec Ideal S1024x1024 .bf16) = truncf .bf16 (aWg m c) bitsLt_bf16_f32 := by
  show StableHlo.after hostOps0 _ (Proc.devRef .tc main_v2) = _
  after_results

theorem V_v3 (c : Dev nD) : (V m c main_v3 : FVec Ideal S256x1024 .bf16) = truncf .bf16 (aWp m c) bitsLt_bf16_f32 := by
  show StableHlo.after hostOps0 _ (Proc.devRef .tc main_v3) = _
  after_results

theorem V_v6 (c : Dev nD) : ∃ (z : FVec Ideal S32768x128 .f32) (w : IVec S1 32), (∀ i, w i = 0#32) ∧ (V m c main_v6 : FVec Ideal S32768x128 .f32)
    = Host.scatter scatter_S32768x128_S1_S32768x2_01_n_1_0 (fun _ b => b) z w (aQ m c) := by
  refine ⟨_, _, ?_, (show StableHlo.after hostOps0 _ (Proc.devRef .tc main_v6) = _ by after_results)⟩
  intro i
  rfl

section
variable (c : Dev nD) (t : Fin cfg0.N)

theorem ltN : t.val < 64 := t.isLt

theorem blk0 (r : Fin 512) (k : Fin 1024) : (iblk m c 0 t : FVec Ideal S512x1024 .f32) (ix2 r k) = aX m c (ix2 ⟨512 * t.val + r, by have := ltN t; omega⟩ k) := by
  have ht := ltN t
  blk_ext [iblk, V_main_arg0, idx t]

theorem blk1 (r : Fin 512) (k : Fin 1024) : (iblk m c 1 t : FVec Ideal S512x1024 .bf16) (ix2 r k) = aY m c (ix2 ⟨512 * t.val + r, by have := ltN t; omega⟩ k) := by
  have ht := ltN t
  blk_ext [iblk, V_main_arg1, idx t]

theorem blk2 (r : Fin 512) (k : Fin 1024) : (iblk m c 2 t : FVec Ideal S512x1024 .bf16) (ix2 r k) = aY m c (ix2 ⟨32768 + (512 * t.val + r), by have := ltN t; omega⟩ k) := by
  have ht := ltN t
  blk_ext [iblk, V_main_arg1, idx t]

theorem rd3 (A : FVec Ideal S32768x128 .f32) (r : Fin 512) (e : Fin 128) :
    (((cfg0.win 3).blk t).view.read (Elt Ideal) A : FVec Ideal S512x128 .f32) (ix2 r e) = A (ix2 ⟨512 * t.val + r, by have := ltN t; omega⟩ e) := by
  have ht := ltN t
  blk_ext [idx t]

theorem blk3a (A : FVec Ideal S32768x128 .f32) (hA : (V m c main_v6 : FVec Ideal S32768x128 .f32) = A) (r : Fin 512) (e : Fin 128) :
    (iblk m c 3 t : FVec Ideal S512x128 .f32) (ix2 r e) = A (ix2 ⟨512 * t.val + r, by have := ltN t; omega⟩ e) := by
  subst hA
  exact rd3 t (V m c main_v6) r e

theorem blk3 (r : Fin 512) (e : Fin 2) : (iblk m c 3 t : FVec Ideal S512x128 .f32) (ix2 r ⟨e.val, by omega⟩) = aQ m c (ix2 ⟨512 * t.val + r, by have := ltN t; omega⟩ e) := by
  obtain ⟨z, w, hw, hv⟩ := V_v6 m c
  rw [blk3a m c t _ hv]
  exact scatter_gate z w hw (aQ m c) _ e

theorem blk4 (r : Fin 512) (k : Fin 256) : (iblk m c 4 t : FVec Ideal S512x256 .f32) (ix2 r k) = aP m c (ix2 ⟨512 * t.val + r, by have := ltN t; omega⟩ k) := by
  have ht := ltN t
  blk_ext [iblk, V_main_arg3, idx t]

theorem blk5 (d : Fin 1024) : (iblk m c 5 t : FVec Ideal S1x1024 .f32) (ix2 0 d) = aG m c (ix1 d) := by
  have h : (iblk m c 5 t : FVec Ideal S1x1024 .f32) (ix2 0 d) = (V m c main_v0 : FVec Ideal S1x1024 .f32) (ix2 0 d) := by
    blk_ext [iblk, idx t]
  rw [h, V_v0]
  pointwise

theorem blk6 (d : Fin 1024) : (iblk m c 6 t : FVec Ideal S1x1024 .f32) (ix2 0 d) = aB m c (ix1 d) := by
  have h : (iblk m c 6 t : FVec Ideal S1x1024 .f32) (ix2 0 d) = (V m c main_v1 : FVec Ideal S1x1024 .f32) (ix2 0 d) := by
    blk_ext [iblk, idx t]
  rw [h, V_v1]
  pointwise

theorem blk7 (k d : Fin 1024) : (iblk m c 7 t : FVec Ideal S1024x1024 .bf16) (ix2 k d) = aWg m c (ix2 k d) := by
  have h : (iblk m c 7 t : FVec Ideal S1024x1024 .bf16) (ix2 k d) = (V m c main_v2 : FVec Ideal S1024x1024 .bf16) (ix2 k d) := by
    blk_ext [iblk, idx t]
  rw [h, V_v2]
  rfl

theorem blk8 (k : Fin 256) (d : Fin 1024) : (iblk m c 8 t : FVec Ideal S256x1024 .bf16) (ix2 k d) = aWp m c (ix2 k d) := by
  have h : (iblk m c 8 t : FVec Ideal S256x1024 .bf16) (ix2 k d) = (V m c main_v3 : FVec Ideal S256x1024 .bf16) (ix2 k d) := by
    blk_ext [iblk, idx t]
  rw [h, V_v3]
  rfl

theorem mid_point (r : Fin 512) (d : Fin 1024) (P : Fin 32768) (hP : P.val = 512 * t.val + r.val) :
    Cert.Swi.normK (iblk m c 5 t) (iblk m c 6 t) (Cert.Swi.cenK (Cert.Swi.preK (iblk m c 0 t) (mixK (iblk m c 3 t) (iblk m c 1 t) (iblk m c 2 t)))) (ix2 r d)
      = mid (aX m c) (aY m c) (aQ m c) (aG m c) (aB m c) P d := by
  have hp : P = ⟨512 * t.val + r.val, by have := ltN t; omega⟩ := Fin.ext hP
  refine (Cert.Swi.midK_at (iblk m c 0 t) (mixK (iblk m c 3 t) (iblk m c 1 t) (iblk m c 2 t)) (iblk m c 5 t) (iblk m c 6 t) r d).trans ?_
  have e0 : (fun k => (iblk m c 0 t : FVec Ideal S512x1024 .f32) (ix2 r k)) = fun k => aX m c (ix2 P k) := by
    funext k; rw [hp]; exact blk0 m c t r k
  have es : (fun d => mixK (iblk m c 3 t) (iblk m c 1 t) (iblk m c 2 t) (ix2 r d)) = mixRow (aY m c) (aQ m c) P := by
    funext d
    rw [mixK_at, hp, mixRow]
    exact congrArg₂ (· + ·) (congrArg₂ (· * ·) (blk1 m c t r d) (blk3 m c t r 0)) (congrArg₂ (· * ·) (blk2 m c t r d) (blk3 m c t r 1))
  have e5 := funext fun k => blk5 m c t k
  have e6 := funext fun k => blk6 m c t k
  rw [e0, es, e5, e6]
  rfl

theorem point (r : Fin 512) (d : Fin 1024) (P : Fin 32768) (hP : P.val = 512 * t.val + r.val) :
    k0_pay1 (F := Ideal) (iblk m c 4 t) (k0_pay2 (iblk m c 5 t)) (k0_pay3 (iblk m c 6 t)) (k0_pay4 (iblk m c 7 t)) (k0_pay5 (iblk m c 8 t))
        (k0_pay6 (iblk m c 3 t) (iblk m c 1 t) (iblk m c 2 t) (iblk m c 0 t)) (k0_pay7 (iblk m c 3 t) (iblk m c 1 t) (iblk m c 2 t) (iblk m c 0 t)) (k0_pay8 (F := Ideal)) (ix2 r d)
      = res (aX m c) (aY m c) (aQ m c) (aP m c) (aG m c) (aB m c) (aWg m c) (aWp m c) P d := by
  have hp : P = ⟨512 * t.val + r.val, by have := ltN t; omega⟩ := Fin.ext hP
  rw [pay1_eq]
  refine (Cert.Swi.pay6_at (iblk m c 4 t) (iblk m c 7 t) (iblk m c 8 t) _ r d).trans ?_
  have e1 := funext fun k => mid_point m c t r k P hP
  have e2 : (fun k => (iblk m c 7 t : FVec Ideal S1024x1024 .bf16) (ix2 k d)) = fun k => aWg m c (ix2 k d) := funext fun k => blk7 m c t k d
  have e3 : (fun k => (iblk m c 4 t : FVec Ideal S512x256 .f32) (ix2 r k)) = fun k => aP m c (ix2 P k) := by
    funext k; rw [hp]; exact blk4 m c t r k
  have e4 : (fun k => (iblk m c 8 t : FVec Ideal S256x1024 .bf16) (ix2 k d)) = fun k => aWp m c (ix2 k d) := funext fun k => blk8 m c t k d
  rw [e1, e2, e3, e4]
  rfl
end

theorem final (c : Dev nD) : (dats m 0 c).arrAt 9 (cfgs 0).N = resV (aX m c) (aY m c) (aQ m c) (aP m c) (aG m c) (aB m c) (aWg m c) (aWp m c) := by
  refine (dats m 0 c).arrAt_eq_of_covers 9 _ (by decide +kernel) fun t hf y => ?_
  have ht := ltN t
  have hi := (idx t).2.2.2.2.2.2.2.2.2
  blk_simp
  rw [after0_9]; frame_out
  obtain ⟨r, d, rfl⟩ : ∃ (r : Fin 512) (d : Fin 1024), y = ix2 r d := ⟨y (0 : Fin 2), y (1 : Fin 2), by funext a; fin_cases a <;> rfl⟩
  have hP : 512 * t.val + r.val < 32768 := by omega
  refine (point m c t r d ⟨_, hP⟩ rfl).trans ?_
  refine (congrArg (resV (aX m c) (aY m c) (aQ m c) (aP m c) (aG m c) (aB m c) (aWg m c) (aWp m c)) (?_ : _ = ix2 ⟨_, hP⟩ d)).symm
  funext a
  refine Fin.ext ?_
  fin_cases a
  · blk_simp
    refine (congrArg (· * 512 + r.val) (congrFun hi (0 : Fin 2))).trans ?_
    show t.val * 512 + r.val = 512 * t.val + r.val
    omega
  · blk_simp
    refine (congrArg (· * 1024 + d.val) (congrFun hi (1 : Fin 2))).trans ?_
    show 0 * 1024 + d.val = d.val
    omega

end Cert.Comb

end
-- ==== Proof.lean ====
/- The claims of `proofs.«01_k».proof.Defs`: for each of the kernel's calls that are proved,
   the frames of the kernel, of its ideal form and of the reference, and that the ideal kernel and the reference give the same result. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_experts_in_range
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.RetFold
public import proofs.«01_k».proof.Proof.RetRun
public import proofs.«01_k».proof.Proof.Proj
public import proofs.«01_k».proof.Proof.ExpPre
public import proofs.«01_k».proof.Proof.ExpFinal
public import proofs.«01_k».proof.Proof.SwiFinal
public import proofs.«01_k».proof.Proof.Even
public import proofs.«01_k».proof.Proof.OutP
public import proofs.«01_k».proof.Proof.Comb
public import Idealize.ShloMosaic.Adequacy
public import Idealize.ShloMosaic.Init

@[expose] public section

set_option maxRecDepth 16384

noncomputable section

namespace Cert.Proof

open Idealize.ShloMosaic Idealize.SL.Sem

/-- The retention: the ideal kernel and the reference give the same result. -/
theorem retention : algebraic_KernelIdeal_ReferenceIdeal := by
  intro m g m' g' _ ha
  refine ⟨fun c => Cert.Ret.resA m c, ?_, ?_⟩
  · exact (θ_run _ _ _).mono (fun r h c => ⟨(Cert.KernelIdeal.Value.post11 m r h c).trans (Cert.Ret.final m c),
      Cert.KernelIdeal.Value.kept_main_arg0 m r h c, Cert.KernelIdeal.Value.kept_main_arg1 m r h c⟩) (Cert.KernelIdeal.Gen.run_main m g)
  · refine (θ_run _ _ _).mono (fun r h c => ⟨(h c).1.trans ?_, (h c).2⟩) (Cert.RetRef.run m' g')
    rw [Cert.RetRef.X, (ha c).1, (ha c).2]

/-- The input projection. -/
theorem projection : algebraic_Kernel4Ideal_Reference4Ideal := by
  intro m g m' g' _ ha
  refine ⟨fun c => Cert.Proj.prod (m ((c.tc : Thread _ _).loc Cert.Kernel4Ideal.main_arg0)) (m ((c.tc : Thread _ _).loc Cert.Kernel4Ideal.main_arg1)), ?_, ?_⟩
  · exact (θ_run _ _ _).mono (fun r h c => ⟨(Cert.Kernel4Ideal.Value.post2 m r h c).trans (Cert.Proj.final m c),
      Cert.Kernel4Ideal.Value.kept_main_arg0 m r h c, Cert.Kernel4Ideal.Value.kept_main_arg1 m r h c⟩) (Cert.Kernel4Ideal.Gen.run_main m g)
  · refine (θ_run _ _ _).mono (fun r h c => ⟨(h c).1.trans ?_, (h c).2⟩) (Cert.Reference4Ideal.Value.run m' g')
    rw [(ha c).1, (ha c).2]

/-- The frame of the projection's reference. -/
theorem frame4 : quiescent_Reference4Ideal := fun m ρ _ =>
  (θ_run _ _ _).mono (fun _ h => ⟨fun c => (h c).2, sem_eq_zero_of_no_sems rfl _⟩) (Cert.Reference4Ideal.Value.run m ρ)

section
open Cert.Kernel2Ideal Cert.Kernel2Ideal.Gen Idealize.ShloMosaic.TcCoe

/-- The experts. -/
theorem experts : algebraic_Kernel2Ideal_Reference2Ideal := by
  intro m g m' g' hp ha
  have hO := Cert.Exp.ok_preIdeal m hp
  have hw : ∀ i, (Cert.Exp.tab m i).toNat < 8 := fun i => Cert.Exp.table_lt _ _ _ _ _ (hp 0) i
  refine ⟨fun c => Cert.Exp.resV (Cert.Exp.tab m) (Cert.Exp.aX m c) (Cert.Exp.aW1 m c) (Cert.Exp.aW3 m c) (Cert.Exp.aW2 m c), ?_, ?_⟩
  · exact (θ_run _ _ _).mono (fun r h c => ⟨((h c).1 4).trans (Cert.Exp.final m hO c hw),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c))),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c)))⟩) (run_main m g hO)
  · refine (θ_run _ _ _).mono (fun r h c => ⟨(h c).1.trans ?_, (h c).2⟩) (Cert.Reference2Ideal.Value.run m' g')
    obtain rfl : c = 0 := Subsingleton.elim _ _
    rw [Cert.Exp.res_main, (ha 0).1, (ha 0).2.1, (ha 0).2.2.1, (ha 0).2.2.2.1, (ha 0).2.2.2.2]
    exact Cert.Exp.ref_eq _ hw _ _ _ _
end

/-- The frame of the experts' reference. -/
theorem frame2 : quiescent_Reference2Ideal := fun m ρ _ =>
  (θ_run _ _ _).mono (fun _ h => ⟨fun c => (h c).2, sem_eq_zero_of_no_sems rfl _⟩) (Cert.Reference2Ideal.Value.run m ρ)

section
open Cert.Swi Cert.Kernel3Ideal Cert.Kernel3Ideal.Gen

/-- The feed-forward call. -/
theorem swiglu : algebraic_Kernel3Ideal_Reference3Ideal := by
  intro m g m' g' _ ha
  refine ⟨fun c => resV (aX m c) (aP m c) (aW1 m c) (aW3 m c) (aW2 m c) (aG m c) (aB m c) (aWg m c) (aWp m c), ?_, ?_⟩
  · exact (θ_run _ _ _).mono (fun r h c => ⟨(Cert.Kernel3Ideal.Value.post9 m r h c).trans (Cert.Swi.final m c),
      Cert.Kernel3Ideal.Value.kept_main_arg0 m r h c, Cert.Kernel3Ideal.Value.kept_main_arg1 m r h c, Cert.Kernel3Ideal.Value.kept_main_arg2 m r h c,
      Cert.Kernel3Ideal.Value.kept_main_arg3 m r h c, Cert.Kernel3Ideal.Value.kept_main_arg4 m r h c, Cert.Kernel3Ideal.Value.kept_main_arg5 m r h c,
      Cert.Kernel3Ideal.Value.kept_main_arg6 m r h c, Cert.Kernel3Ideal.Value.kept_main_arg7 m r h c, Cert.Kernel3Ideal.Value.kept_main_arg8 m r h c⟩) (Cert.Kernel3Ideal.Gen.run_main m g)
  · refine (θ_run _ _ _).mono (fun r h c => ⟨(h c).1.trans ?_, (h c).2⟩) (Cert.Reference3Ideal.Value.run m' g')
    obtain ⟨h0, h1, h2, h3, h4, h5, h6, h7, h8⟩ := ha c
    rw [Cert.Swi.res_main, h0, h1, h2, h3, h4, h5, h6, h7, h8]
    exact Cert.Swi.ref_eq _ _ _ _ _ _ _ _ _
end

/-- The frame of the feed-forward call's reference. -/
theorem frame3 : quiescent_Reference3Ideal := fun m ρ _ =>
  (θ_run _ _ _).mono (fun _ h => ⟨fun c => (h c).2, sem_eq_zero_of_no_sems rfl _⟩) (Cert.Reference3Ideal.Value.run m ρ)

section
open Cert.Even Cert.Kernel6Ideal Cert.Kernel6Ideal.Gen

/-- The even layer's input projections. -/
theorem projEven : algebraic_Kernel6Ideal_Reference6Ideal := by
  intro m g m' g' _ ha
  refine ⟨fun c => resB (m ((c.tc : Thread nD τ).loc main_arg0)) (m ((c.tc : Thread nD τ).loc main_arg1)),
    fun c => resF (m ((c.tc : Thread nD τ).loc main_arg0)) (m ((c.tc : Thread nD τ).loc main_arg2)),
    fun c => resV (m ((c.tc : Thread nD τ).loc main_arg0)) (m ((c.tc : Thread nD τ).loc main_arg3)), ?_, ?_⟩
  · exact (θ_run _ _ _).mono (fun r h c => ⟨(Cert.Kernel6Ideal.Value.post4 m r h c).trans (Cert.Even.finalB m c),
      (Cert.Kernel6Ideal.Value.post5 m r h c).trans (Cert.Even.finalF m c), (Cert.Kernel6Ideal.Value.post6 m r h c).trans (Cert.Even.finalV m c),
      Cert.Kernel6Ideal.Value.kept_main_arg0 m r h c, Cert.Kernel6Ideal.Value.kept_main_arg1 m r h c,
      Cert.Kernel6Ideal.Value.kept_main_arg2 m r h c, Cert.Kernel6Ideal.Value.kept_main_arg3 m r h c⟩) (Cert.Kernel6Ideal.Gen.run_main m g)
  · refine (θ_run _ _ _).mono (fun r h c => ⟨(h c).1.trans ?_, (h c).2.1.trans ?_, (h c).2.2.1.trans ?_, (h c).2.2.2⟩) (Cert.Reference6Ideal.Value.run m' g') <;>
      obtain ⟨h0, h1, h2, h3⟩ := ha c
    · rw [h0, h1]
    · rw [h0, h2]
    · rw [h0, h3]
end

/-- The frame of the even projections' reference. -/
theorem frame6 : quiescent_Reference6Ideal := fun m ρ _ =>
  (θ_run _ _ _).mono (fun _ h => ⟨fun c => (h c).2.2.2, sem_eq_zero_of_no_sems rfl _⟩) (Cert.Reference6Ideal.Value.run m ρ)

section
open Cert.OutP Cert.Kernel7Ideal Cert.Kernel7Ideal.Gen

/-- The even layer's out projection. -/
theorem outEven : algebraic_Kernel7Ideal_Reference7Ideal := by
  intro m g m' g' _ ha
  refine ⟨fun c => resV (aA m c) (aB m c) (aX m c) (aW m c) (aG m c) (aC m c), ?_, ?_⟩
  · exact (θ_run _ _ _).mono (fun r h c => ⟨(Cert.Kernel7Ideal.Value.post7 m r h c).trans (Cert.OutP.final m c),
      Cert.Kernel7Ideal.Value.kept_main_arg0 m r h c, Cert.Kernel7Ideal.Value.kept_main_arg1 m r h c, Cert.Kernel7Ideal.Value.kept_main_arg2 m r h c,
      Cert.Kernel7Ideal.Value.kept_main_arg3 m r h c, Cert.Kernel7Ideal.Value.kept_main_arg4 m r h c, Cert.Kernel7Ideal.Value.kept_main_arg5 m r h c⟩) (Cert.Kernel7Ideal.Gen.run_main m g)
  · refine (θ_run _ _ _).mono (fun r h c => ⟨(h c).1.trans ?_, (h c).2⟩) (Cert.Reference7Ideal.Value.run m' g')
    obtain ⟨h0, h1, h2, h3, h4, h5⟩ := ha c
    rw [Cert.OutP.res_main, h0, h1, h2, h3, h4, h5]
    exact Cert.OutP.ref_eq _ _ _ _ _ _
end

/-- The frame of the out projection's reference. -/
theorem frame7 : quiescent_Reference7Ideal := fun m ρ _ =>
  (θ_run _ _ _).mono (fun _ h => ⟨fun c => (h c).2, sem_eq_zero_of_no_sems rfl _⟩) (Cert.Reference7Ideal.Value.run m ρ)

section
open Cert.Comb Cert.Kernel5Ideal Cert.Kernel5Ideal.Gen

/-- The combination. -/
theorem combine : algebraic_Kernel5Ideal_Reference5Ideal := by
  intro m g m' g' _ ha
  refine ⟨fun c => resV (aX m c) (aY m c) (aQ m c) (aP m c) (aG m c) (aB m c) (aWg m c) (aWp m c), ?_, ?_⟩
  · exact (θ_run _ _ _).mono (fun r h c => ⟨(Cert.Kernel5Ideal.Value.post9 m r h c).trans (Cert.Comb.final m c),
      Cert.Kernel5Ideal.Value.kept_main_arg0 m r h c, Cert.Kernel5Ideal.Value.kept_main_arg1 m r h c, Cert.Kernel5Ideal.Value.kept_main_arg2 m r h c,
      Cert.Kernel5Ideal.Value.kept_main_arg3 m r h c, Cert.Kernel5Ideal.Value.kept_main_arg4 m r h c, Cert.Kernel5Ideal.Value.kept_main_arg5 m r h c,
      Cert.Kernel5Ideal.Value.kept_main_arg6 m r h c, Cert.Kernel5Ideal.Value.kept_main_arg7 m r h c⟩) (Cert.Kernel5Ideal.Gen.run_main m g)
  · refine (θ_run _ _ _).mono (fun r h c => ⟨(h c).1.trans ?_, (h c).2⟩) (Cert.Reference5Ideal.Value.run m' g')
    obtain ⟨h0, h1, h2, h3, h4, h5, h6, h7⟩ := ha c
    rw [Cert.Comb.res_main, h0, h1, h2, h3, h4, h5, h6, h7]
    exact Cert.Comb.ref_eq _ _ _ _ _ _ _ _
end

/-- The frame of the combination's reference. -/
theorem frame5 : quiescent_Reference5Ideal := fun m ρ _ =>
  (θ_run _ _ _).mono (fun _ h => ⟨fun c => (h c).2, sem_eq_zero_of_no_sems rfl _⟩) (Cert.Reference5Ideal.Value.run m ρ)

theorem claim : Cert.Claim :=
  ⟨Cert.Kernel.Gen.facts, Cert.KernelIdeal.Gen.facts, Cert.ReferenceIdeal.Gen.facts,
    Cert.Kernel4.Gen.facts, Cert.Kernel4Ideal.Gen.facts, Cert.Reference4Ideal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel5.Gen.facts, Cert.Kernel5Ideal.Gen.facts, Cert.Reference5Ideal.Gen.facts, Cert.Pre_experts_in_range.Gen.facts,
    fun m ρ _ => Cert.Kernel.Gen.frame m ρ, fun m ρ _ => Cert.KernelIdeal.Gen.frame m ρ, fun m ρ _ => Cert.RetRef.frame m ρ,
    fun m ρ _ => Cert.Kernel4.Gen.frame m ρ, fun m ρ _ => Cert.Kernel4Ideal.Gen.frame m ρ, frame4,
    fun m ρ h => Cert.Kernel2.Gen.frame m ρ (Cert.Exp.ok_pre m h), fun m ρ h => Cert.Kernel2Ideal.Gen.frame m ρ (Cert.Exp.ok_preIdeal m h), frame2,
    fun m ρ _ => Cert.Kernel3.Gen.frame m ρ, fun m ρ _ => Cert.Kernel3Ideal.Gen.frame m ρ, frame3,
    fun m ρ _ => Cert.Kernel6.Gen.frame m ρ, fun m ρ _ => Cert.Kernel6Ideal.Gen.frame m ρ, frame6,
    fun m ρ _ => Cert.Kernel7.Gen.frame m ρ, fun m ρ _ => Cert.Kernel7Ideal.Gen.frame m ρ, frame7,
    fun m ρ _ => Cert.Kernel5.Gen.frame m ρ, fun m ρ _ => Cert.Kernel5Ideal.Gen.frame m ρ, frame5,
    trivial, retention, trivial, projection, trivial, experts, trivial, swiglu, trivial, projEven, trivial, outEven, trivial, combine⟩

end Cert.Proof

end
